-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_masks [hPre_finite_masks : Cert.Pre_finite_masks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_masks [hPre_finite_masks : Cert.Pre_finite_masks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_masks [hKernelIdeal : Cert.KernelIdeal.Facts] [hPre_finite_masks : Cert.Pre_finite_masks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_masks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_masks [hReferenceIdeal : Cert.ReferenceIdeal.Facts] [hPre_finite_masks : Cert.Pre_finite_masks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_masks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_masks [hKernelIdeal : Cert.KernelIdeal.Facts] [hReferenceIdeal : Cert.ReferenceIdeal.Facts] [hPre_finite_masks : Cert.Pre_finite_masks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_masks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_masks : Cert.Pre_finite_masks.Facts),
    quiescent_Kernel (hKernel := hKernel)
    ∧ quiescent_KernelIdeal (hKernelIdeal := hKernelIdeal)
    ∧ quiescent_KernelIdeal_pre_finite_masks (hKernelIdeal := hKernelIdeal) (hPre_finite_masks := hPre_finite_masks)
    ∧ quiescent_ReferenceIdeal (hReferenceIdeal := hReferenceIdeal)
    ∧ quiescent_ReferenceIdeal_pre_finite_masks (hReferenceIdeal := hReferenceIdeal) (hPre_finite_masks := hPre_finite_masks)
    ∧ preserves_Kernel_KernelIdeal
    ∧ algebraic_KernelIdeal_ReferenceIdeal_pre_finite_masks (hKernelIdeal := hKernelIdeal) (hReferenceIdeal := hReferenceIdeal) (hPre_finite_masks := hPre_finite_masks)
-- ==== Pre_finite_masks.lean ====
abbrev S2x300x42 : Shape := ⟨3, ![2, 300, 42]⟩
abbrev S2x300x4x48x48 : Shape := ⟨5, ![2, 300, 4, 48, 48]⟩
abbrev S2x300x4 : Shape := ⟨3, ![2, 300, 4]⟩
abbrev S2x2 : Shape := ⟨2, ![2, 2]⟩
abbrev S_ : Shape := ⟨0, ![]⟩

class Facts : Prop where
  bcast_S_S2x300x4x48x48 : S_.BroadcastsInDim S2x300x4x48x48 (![] : Fin 0 → Fin S2x300x4x48x48.rank)

variable [Facts]

def fn {F : FTy → Type} [FloatOps F] (main_arg0 : FVec F S2x300x42 .f32) (main_arg1 : FVec F S2x300x4x48x48 .f32) (main_arg2 : FVec F S2x300x4 .f32) (main_arg3 : IVec S2x2 32) (main_arg4 : IVec S2x2 32) : IVec S2x300x4x48x48 1 :=
  let main_v0 : FVec F S2x300x4x48x48 .f32 := Host.absf main_arg1
  let main_cst : FVec F S_ .f32 := constant S_ .f32 0x7F800000#32
  let main_v1 : FVec F S2x300x4x48x48 .f32 := broadcastInDim S2x300x4x48x48 ![] bcast_S_S2x300x4x48x48 main_cst
  let main_v2 : IVec S2x300x4x48x48 1 := cmpf .olt main_v0 main_v1
  main_v2
-- ==== Kernel.lean ====
abbrev S2x300x42 : Shape := ⟨3, ![2, 300, 42]⟩
abbrev S2x300x4x48x48 : Shape := ⟨5, ![2, 300, 4, 48, 48]⟩
abbrev S2x300x4 : Shape := ⟨3, ![2, 300, 4]⟩
abbrev S2x2 : Shape := ⟨2, ![2, 2]⟩
abbrev S256x48 : Shape := ⟨2, ![256, 48]⟩
abbrev S48x256 : Shape := ⟨2, ![48, 256]⟩
abbrev S_ : Shape := ⟨0, ![]⟩
abbrev S2x12600 : Shape := ⟨2, ![2, 12600]⟩
abbrev S2x12672 : Shape := ⟨2, ![2, 12672]⟩
abbrev S2x99x128 : Shape := ⟨3, ![2, 99, 128]⟩
abbrev S2x304x4 : Shape := ⟨3, ![2, 304, 4]⟩
abbrev S2x1x128 : Shape := ⟨3, ![2, 1, 128]⟩
abbrev S2x128x4 : Shape := ⟨3, ![2, 128, 4]⟩
abbrev S2x128 : Shape := ⟨2, ![2, 128]⟩
abbrev S2x100 : Shape := ⟨2, ![2, 100]⟩
abbrev S2x100x4 : Shape := ⟨3, ![2, 100, 4]⟩
abbrev S2x4x48x48x300 : Shape := ⟨5, ![2, 4, 48, 48, 300]⟩
abbrev S2x104x4x48x48 : Shape := ⟨5, ![2, 104, 4, 48, 48]⟩
abbrev S2x104x192x48 : Shape := ⟨4, ![2, 104, 192, 48]⟩
abbrev S256x96 : Shape := ⟨2, ![256, 96]⟩
abbrev S2x100x4x256x256 : Shape := ⟨5, ![2, 100, 4, 256, 256]⟩
abbrev S99x128 : Shape := ⟨2, ![99, 128]⟩
abbrev S1x128 : Shape := ⟨2, ![1, 128]⟩
abbrev S1x99x128 : Shape := ⟨3, ![1, 99, 128]⟩
abbrev S1 : Shape := ⟨1, ![1]⟩
abbrev S1x1x1 : Shape := ⟨3, ![1, 1, 1]⟩
abbrev S304x128 : Shape := ⟨2, ![304, 128]⟩
abbrev S1x1x128 : Shape := ⟨3, ![1, 1, 128]⟩
abbrev S1x304x4 : Shape := ⟨3, ![1, 304, 4]⟩
abbrev S304x4 : Shape := ⟨2, ![304, 4]⟩
abbrev S128x4 : Shape := ⟨2, ![128, 4]⟩
abbrev S1x128x4 : Shape := ⟨3, ![1, 128, 4]⟩
abbrev S1x1x48x48x300 : Shape := ⟨5, ![1, 1, 48, 48, 300]⟩
abbrev S1x104x1x48x48 : Shape := ⟨5, ![1, 104, 1, 48, 48]⟩
abbrev S128x1 : Shape := ⟨2, ![128, 1]⟩
abbrev S104x1 : Shape := ⟨2, ![104, 1]⟩
abbrev S104x300 : Shape := ⟨2, ![104, 300]⟩
abbrev S1x1x1x48x300 : Shape := ⟨5, ![1, 1, 1, 48, 300]⟩
abbrev S48x300 : Shape := ⟨2, ![48, 300]⟩
abbrev S104x48 : Shape := ⟨2, ![104, 48]⟩
abbrev S1x104x1x1x48 : Shape := ⟨5, ![1, 104, 1, 1, 48]⟩
abbrev S1x1x192x48 : Shape := ⟨4, ![1, 1, 192, 48]⟩
abbrev S1x10x4x256x256 : Shape := ⟨5, ![1, 10, 4, 256, 256]⟩
abbrev S192x48 : Shape := ⟨2, ![192, 48]⟩
abbrev S384x48 : Shape := ⟨2, ![384, 48]⟩
abbrev S384x256 : Shape := ⟨2, ![384, 256]⟩
abbrev S192x256 : Shape := ⟨2, ![192, 256]⟩
abbrev S96x256 : Shape := ⟨2, ![96, 256]⟩
abbrev S256x256 : Shape := ⟨2, ![256, 256]⟩
abbrev S1x1x1x256x256 : Shape := ⟨5, ![1, 1, 1, 256, 256]⟩

abbrev nBuf : Space → Nat
  | .hbm => 39
  | .vmem => 36
  | .smem => 0
  | _ => 0

abbrev bufTy : (tb : Table) → Fin (tcTables nBuf tb) → BufTy
  | .hbm, ⟨0, _⟩ => ⟨S2x300x42, .f32⟩
  | .hbm, ⟨1, _⟩ => ⟨S2x300x4x48x48, .f32⟩
  | .hbm, ⟨2, _⟩ => ⟨S2x300x4, .f32⟩
  | .hbm, ⟨3, _⟩ => ⟨S2x2, .i32⟩
  | .hbm, ⟨4, _⟩ => ⟨S2x2, .i32⟩
  | .hbm, ⟨5, _⟩ => ⟨S256x48, .f32⟩
  | .hbm, ⟨6, _⟩ => ⟨S48x256, .f32⟩
  | .hbm, ⟨7, _⟩ => ⟨S2x300x42, .f32⟩
  | .hbm, ⟨8, _⟩ => ⟨S2x300x42, .f32⟩
  | .hbm, ⟨9, _⟩ => ⟨S_, .f32⟩
  | .hbm, ⟨10, _⟩ => ⟨S2x300x42, .f32⟩
  | .hbm, ⟨11, _⟩ => ⟨S2x300x42, .f32⟩
  | .hbm, ⟨12, _⟩ => ⟨S_, .f32⟩
  | .hbm, ⟨13, _⟩ => ⟨S2x300x42, .f32⟩
  | .hbm, ⟨14, _⟩ => ⟨S2x300x42, .f32⟩
  | .hbm, ⟨15, _⟩ => ⟨S2x12600, .f32⟩
  | .hbm, ⟨16, _⟩ => ⟨S_, .f32⟩
  | .hbm, ⟨17, _⟩ => ⟨S_, .f32⟩
  | .hbm, ⟨18, _⟩ => ⟨S2x12672, .f32⟩
  | .hbm, ⟨19, _⟩ => ⟨S2x99x128, .f32⟩
  | .hbm, ⟨20, _⟩ => ⟨S_, .i32⟩
  | .hbm, ⟨21, _⟩ => ⟨S_, .f32⟩
  | .hbm, ⟨22, _⟩ => ⟨S2x304x4, .f32⟩
  | .hbm, ⟨23, _⟩ => ⟨S2x1x128, .f32⟩
  | .hbm, ⟨24, _⟩ => ⟨S2x1x128, .i32⟩
  | .hbm, ⟨25, _⟩ => ⟨S2x1x128, .i32⟩
  | .hbm, ⟨26, _⟩ => ⟨S2x128x4, .f32⟩
  | .hbm, ⟨27, _⟩ => ⟨S2x128, .f32⟩
  | .hbm, ⟨28, _⟩ => ⟨S2x100, .f32⟩
  | .hbm, ⟨29, _⟩ => ⟨S2x128, .i32⟩
  | .hbm, ⟨30, _⟩ => ⟨S2x100, .i32⟩
  | .hbm, ⟨31, _⟩ => ⟨S2x100x4, .f32⟩
  | .hbm, ⟨32, _⟩ => ⟨S2x4x48x48x300, .f32⟩
  | .hbm, ⟨33, _⟩ => ⟨S2x104x4x48x48, .f32⟩
  | .hbm, ⟨34, _⟩ => ⟨S2x104x192x48, .f32⟩
  | .hbm, ⟨35, _⟩ => ⟨S256x96, .f32⟩
  | .hbm, ⟨36, _⟩ => ⟨S256x96, .bf16⟩
  | .hbm, ⟨37, _⟩ => ⟨S48x256, .bf16⟩
  | .hbm, ⟨38, _⟩ => ⟨S2x100x4x256x256, .i8⟩
  | .local _ .vmem, ⟨0, _⟩ => ⟨S2x99x128, .f32⟩
  | .local _ .vmem, ⟨1, _⟩ => ⟨S2x304x4, .f32⟩
  | .local _ .vmem, ⟨2, _⟩ => ⟨S2x1x128, .f32⟩
  | .local _ .vmem, ⟨3, _⟩ => ⟨S2x1x128, .i32⟩
  | .local _ .vmem, ⟨4, _⟩ => ⟨S2x1x128, .i32⟩
  | .local _ .vmem, ⟨5, _⟩ => ⟨S2x128x4, .f32⟩
  | .local _ .vmem, ⟨6, _⟩ => ⟨S1x1x128, .i32⟩
  | .local _ .vmem, ⟨7, _⟩ => ⟨S1x1x128, .i32⟩
  | .local _ .vmem, ⟨8, _⟩ => ⟨S1x1x48x48x300, .f32⟩
  | .local _ .vmem, ⟨9, _⟩ => ⟨S1x1x48x48x300, .f32⟩
  | .local _ .vmem, ⟨10, _⟩ => ⟨S1x104x1x48x48, .f32⟩
  | .local _ .vmem, ⟨11, _⟩ => ⟨S1x104x1x48x48, .f32⟩
  | .local _ .vmem, ⟨12, _⟩ => ⟨S1x1x192x48, .f32⟩
  | .local _ .vmem, ⟨13, _⟩ => ⟨S1x1x192x48, .f32⟩
  | .local _ .vmem, ⟨14, _⟩ => ⟨S1x1x192x48, .f32⟩
  | .local _ .vmem, ⟨15, _⟩ => ⟨S1x1x192x48, .f32⟩
  | .local _ .vmem, ⟨16, _⟩ => ⟨S1x1x192x48, .f32⟩
  | .local _ .vmem, ⟨17, _⟩ => ⟨S1x1x192x48, .f32⟩
  | .local _ .vmem, ⟨18, _⟩ => ⟨S1x1x192x48, .f32⟩
  | .local _ .vmem, ⟨19, _⟩ => ⟨S1x1x192x48, .f32⟩
  | .local _ .vmem, ⟨20, _⟩ => ⟨S1x1x192x48, .f32⟩
  | .local _ .vmem, ⟨21, _⟩ => ⟨S1x1x192x48, .f32⟩
  | .local _ .vmem, ⟨22, _⟩ => ⟨S1x1x192x48, .f32⟩
  | .local _ .vmem, ⟨23, _⟩ => ⟨S1x1x192x48, .f32⟩
  | .local _ .vmem, ⟨24, _⟩ => ⟨S1x1x192x48, .f32⟩
  | .local _ .vmem, ⟨25, _⟩ => ⟨S1x1x192x48, .f32⟩
  | .local _ .vmem, ⟨26, _⟩ => ⟨S1x1x192x48, .f32⟩
  | .local _ .vmem, ⟨27, _⟩ => ⟨S1x1x192x48, .f32⟩
  | .local _ .vmem, ⟨28, _⟩ => ⟨S1x1x192x48, .f32⟩
  | .local _ .vmem, ⟨29, _⟩ => ⟨S1x1x192x48, .f32⟩
  | .local _ .vmem, ⟨30, _⟩ => ⟨S1x1x192x48, .f32⟩
  | .local _ .vmem, ⟨31, _⟩ => ⟨S1x1x192x48, .f32⟩
  | .local _ .vmem, ⟨32, _⟩ => ⟨S256x96, .bf16⟩
  | .local _ .vmem, ⟨33, _⟩ => ⟨S48x256, .bf16⟩
  | .local _ .vmem, ⟨34, _⟩ => ⟨S1x10x4x256x256, .i8⟩
  | .local _ .vmem, ⟨35, _⟩ => ⟨S1x10x4x256x256, .i8⟩
  | _, _ => ⟨S2x300x42, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_cst_1 : Ref sig .tc := ⟨.hbm, 9, rfl⟩
abbrev main_call0_v2 : Ref sig .tc := ⟨.hbm, 10, rfl⟩
abbrev main_call0_v3 : Ref sig .tc := ⟨.hbm, 11, rfl⟩
abbrev main_call0_cst_2 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_3 : Ref sig .tc := ⟨.hbm, 16, rfl⟩
abbrev main_call0_call0_v0 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_call1_v0 : Ref sig .tc := ⟨.hbm, 21, rfl⟩
abbrev main_call0_v9 : Ref sig .tc := ⟨.hbm, 22, rfl⟩
abbrev main_call0_v10_0 : Ref sig .tc := ⟨.hbm, 23, rfl⟩
abbrev main_call0_v10_1 : Ref sig .tc := ⟨.hbm, 24, rfl⟩
abbrev main_call0_v10_2 : Ref sig .tc := ⟨.hbm, 25, rfl⟩
abbrev main_call0_v10_3 : Ref sig .tc := ⟨.hbm, 26, rfl⟩
abbrev main_call0_v11 : Ref sig .tc := ⟨.hbm, 27, rfl⟩
abbrev main_v0_0 : Ref sig .tc := ⟨.hbm, 28, rfl⟩
abbrev main_call0_v13 : Ref sig .tc := ⟨.hbm, 29, rfl⟩
abbrev main_v0_1 : Ref sig .tc := ⟨.hbm, 30, rfl⟩
abbrev main_v0_2 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_v0_3 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc2_stg9_1 : Ref sig .tc := ⟨.vmem, 31, rfl⟩
abbrev cc2_stg10_0 : Ref sig .tc := ⟨.vmem, 32, rfl⟩
abbrev cc2_stg11_0 : Ref sig .tc := ⟨.vmem, 33, rfl⟩
abbrev cc2_stg12_0 : Ref sig .tc := ⟨.vmem, 34, rfl⟩
abbrev cc2_stg12_1 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29
abbrev cc2_sem9_0 : DmaSem sig := 30
abbrev cc2_sem9_1 : DmaSem sig := 31
abbrev cc2_sem10_0 : DmaSem sig := 32
abbrev cc2_sem11_0 : DmaSem sig := 33
abbrev cc2_sem12_0 : DmaSem sig := 34
abbrev cc2_sem12_1 : DmaSem sig := 35

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_4 : BitVec 32 := 0#32
  let c100_i32 : BitVec 32 := 100#32
  let v12 : BitVec 32 := Scalar.addi c0_i32_4 c100_i32
  let c1_i32 : BitVec 32 := 1#32
  ⟨c0_i32_4, v12, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x99x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x304x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage1_0 : Fin 2 → Memref sig .tc .vmem S1x1x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x48x48x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x104x1x48x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 10], ![false, false]⟩

def cc2_transform_0 (i : grid2.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli c10_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli c10_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![arg0.toNat, v1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli c10_i32 arg1
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![arg0.toNat, v1.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli c10_i32 arg1
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![arg0.toNat, v1.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli c10_i32 arg1
  let c4_i32 : BitVec 32 := 4#32
  let v1 : BitVec 32 := Scalar.addi v0 c4_i32
  let c0_i32 : BitVec 32 := 0#32
  let c0_i32_0 : BitVec 32 := 0#32
  let c0_i32_1 : BitVec 32 := 0#32
  ![arg0.toNat, v1.toNat, c0_i32.toNat, c0_i32_0.toNat]

def cc2_transform_5 (i : grid2.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli c10_i32 arg1
  let c5_i32 : BitVec 32 := 5#32
  let v1 : BitVec 32 := Scalar.addi v0 c5_i32
  let c0_i32 : BitVec 32 := 0#32
  let c0_i32_0 : BitVec 32 := 0#32
  let c0_i32_1 : BitVec 32 := 0#32
  ![arg0.toNat, v1.toNat, c0_i32.toNat, c0_i32_0.toNat]

def cc2_transform_6 (i : grid2.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli c10_i32 arg1
  let c6_i32 : BitVec 32 := 6#32
  let v1 : BitVec 32 := Scalar.addi v0 c6_i32
  let c0_i32 : BitVec 32 := 0#32
  let c0_i32_0 : BitVec 32 := 0#32
  let c0_i32_1 : BitVec 32 := 0#32
  ![arg0.toNat, v1.toNat, c0_i32.toNat, c0_i32_0.toNat]

def cc2_transform_7 (i : grid2.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli c10_i32 arg1
  let c7_i32 : BitVec 32 := 7#32
  let v1 : BitVec 32 := Scalar.addi v0 c7_i32
  let c0_i32 : BitVec 32 := 0#32
  let c0_i32_0 : BitVec 32 := 0#32
  let c0_i32_1 : BitVec 32 := 0#32
  ![arg0.toNat, v1.toNat, c0_i32.toNat, c0_i32_0.toNat]

def cc2_transform_8 (i : grid2.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli c10_i32 arg1
  let c8_i32 : BitVec 32 := 8#32
  let v1 : BitVec 32 := Scalar.addi v0 c8_i32
  let c0_i32 : BitVec 32 := 0#32
  let c0_i32_0 : BitVec 32 := 0#32
  let c0_i32_1 : BitVec 32 := 0#32
  ![arg0.toNat, v1.toNat, c0_i32.toNat, c0_i32_0.toNat]

def cc2_transform_9 (i : grid2.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli c10_i32 arg1
  let c9_i32 : BitVec 32 := 9#32
  let v1 : BitVec 32 := Scalar.addi v0 c9_i32
  let c0_i32 : BitVec 32 := 0#32
  let c0_i32_0 : BitVec 32 := 0#32
  let c0_i32_1 : BitVec 32 := 0#32
  ![arg0.toNat, v1.toNat, c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage2_0 : Fin 2 → Memref sig .tc .vmem S1x1x192x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x192x48 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x192x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x192x48 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x192x48 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x192x48 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1x192x48 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x1x192x48 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x1x192x48 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x1x192x48 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 1 → Memref sig .tc .vmem S256x96 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S48x256 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S1x10x4x256x256 .i8 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]
-- ==== ReferenceIdeal.lean ====
abbrev S2x300x42 : Shape := ⟨3, ![2, 300, 42]⟩
abbrev S2x300x4x48x48 : Shape := ⟨5, ![2, 300, 4, 48, 48]⟩
abbrev S2x300x4 : Shape := ⟨3, ![2, 300, 4]⟩
abbrev S2x2 : Shape := ⟨2, ![2, 2]⟩
abbrev S_ : Shape := ⟨0, ![]⟩
abbrev S2x12600 : Shape := ⟨2, ![2, 12600]⟩
abbrev S2x100 : Shape := ⟨2, ![2, 100]⟩
abbrev S2x100x1x1x1 : Shape := ⟨5, ![2, 100, 1, 1, 1]⟩
abbrev S2x100x1 : Shape := ⟨3, ![2, 100, 1]⟩
abbrev S1 : Shape := ⟨1, ![1]⟩
abbrev S1x1x1 : Shape := ⟨3, ![1, 1, 1]⟩
abbrev S2x100x4x48x48 : Shape := ⟨5, ![2, 100, 4, 48, 48]⟩
abbrev S200x4x48x48 : Shape := ⟨4, ![200, 4, 48, 48]⟩
abbrev S192 : Shape := ⟨1, ![192]⟩
abbrev S48 : Shape := ⟨1, ![48]⟩
abbrev S1x192 : Shape := ⟨2, ![1, 192]⟩
abbrev S48x1 : Shape := ⟨2, ![48, 1]⟩
abbrev S48x192 : Shape := ⟨2, ![48, 192]⟩
abbrev S192x200x4x48 : Shape := ⟨4, ![192, 200, 4, 48]⟩
abbrev S200x4x192x48 : Shape := ⟨4, ![200, 4, 192, 48]⟩
abbrev S200x4x192x192 : Shape := ⟨4, ![200, 4, 192, 192]⟩
abbrev S2x100x4x192x192 : Shape := ⟨5, ![2, 100, 4, 192, 192]⟩
abbrev S2x4x100x192x192 : Shape := ⟨5, ![2, 4, 100, 192, 192]⟩
abbrev S2x100x4 : Shape := ⟨3, ![2, 100, 4]⟩
abbrev S2x4x100x180x192 : Shape := ⟨5, ![2, 4, 100, 180, 192]⟩
abbrev S256 : Shape := ⟨1, ![256]⟩
abbrev S256x1 : Shape := ⟨2, ![256, 1]⟩
abbrev S2x4x100x256x192 : Shape := ⟨5, ![2, 4, 100, 256, 192]⟩
abbrev S2x4x100x256x256 : Shape := ⟨5, ![2, 4, 100, 256, 256]⟩
abbrev S2x100x4x256x256 : Shape := ⟨5, ![2, 100, 4, 256, 256]⟩

abbrev nBuf : Space → Nat
  | .hbm => 197
  | .vmem => 0
  | .smem => 0
  | _ => 0

abbrev hbmTy0_0 (i : Nat) : BufTy := match i % 128 with
  | 0 => ⟨S2x300x42, .f32⟩
  | 1 => ⟨S2x300x4x48x48, .f32⟩
  | 2 => ⟨S2x300x4, .f32⟩
  | 3 => ⟨S2x2, .i32⟩
  | 4 => ⟨S2x2, .i32⟩
  | 5 => ⟨S2x300x42, .f32⟩
  | 6 => ⟨S2x300x42, .f32⟩
  | 7 => ⟨S_, .f32⟩
  | 8 => ⟨S2x300x42, .f32⟩
  | 9 => ⟨S2x300x42, .f32⟩
  | 10 => ⟨S_, .f32⟩
  | 11 => ⟨S2x300x42, .f32⟩
  | 12 => ⟨S2x300x42, .f32⟩
  | 13 => ⟨S2x12600, .f32⟩
  | 14 => ⟨S2x100, .f32⟩
  | 15 => ⟨S2x100, .i32⟩
  | 16 => ⟨S_, .i32⟩
  | 17 => ⟨S_, .i32⟩
  | 18 => ⟨S2x100, .i32⟩
  | 19 => ⟨S2x100, .i32⟩
  | 20 => ⟨S2x100, .i32⟩
  | 21 => ⟨S_, .i32⟩
  | 22 => ⟨S2x100, .i32⟩
  | 23 => ⟨S2x100, .i1⟩
  | 24 => ⟨S2x100, .i32⟩
  | 25 => ⟨S2x100, .i32⟩
  | 26 => ⟨S_, .i32⟩
  | 27 => ⟨S2x100, .i32⟩
  | 28 => ⟨S2x100, .i1⟩
  | 29 => ⟨S2x100, .i1⟩
  | 30 => ⟨S_, .i32⟩
  | 31 => ⟨S2x100, .i32⟩
  | 32 => ⟨S2x100, .i32⟩
  | 33 => ⟨S2x100, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S2x100, .i32⟩
  | 41 => ⟨S2x100, .i32⟩
  | 42 => ⟨S_, .i32⟩
  | 43 => ⟨S2x100, .i32⟩
  | 44 => ⟨S2x100, .i1⟩
  | 45 => ⟨S_, .i32⟩
  | 46 => ⟨S2x100, .i32⟩
  | 47 => ⟨S2x100, .i1⟩
  | 48 => ⟨S_, .i32⟩
  | 49 => ⟨S_, .i1⟩
  | 50 => ⟨S2x100, .i1⟩
  | 51 => ⟨S2x100, .i1⟩
  | 52 => ⟨S2x100, .i1⟩
  | 53 => ⟨S2x100, .i32⟩
  | 54 => ⟨S2x100, .i32⟩
  | 55 => ⟨S2x100, .i32⟩
  | 56 => ⟨S2x100x1x1x1, .i32⟩
  | 57 => ⟨S_, .i32⟩
  | 58 => ⟨S2x100x1x1x1, .i32⟩
  | 59 => ⟨S2x100x1x1x1, .i1⟩
  | 60 => ⟨S_, .i32⟩
  | 61 => ⟨S2x100x1x1x1, .i32⟩
  | 62 => ⟨S2x100x1x1x1, .i32⟩
  | 63 => ⟨S2x100x1x1x1, .i32⟩
  | 64 => ⟨S2x100x1, .i32⟩
  | 65 => ⟨S1, .i32⟩
  | 66 => ⟨S_, .i32⟩
  | 67 => ⟨S2x100x1, .i32⟩
  | 68 => ⟨S2x100x1, .i1⟩
  | 69 => ⟨S1x1x1, .i32⟩
  | 70 => ⟨S2x100x1, .i32⟩
  | 71 => ⟨S2x100x1, .i1⟩
  | 72 => ⟨S2x100x1, .i1⟩
  | 73 => ⟨S_, .i1⟩
  | 74 => ⟨S2x100, .i1⟩
  | 75 => ⟨S2x100x4x48x48, .f32⟩
  | 76 => ⟨S2x100x4x48x48, .i1⟩
  | 77 => ⟨S_, .f32⟩
  | 78 => ⟨S2x100x4x48x48, .f32⟩
  | 79 => ⟨S2x100x4x48x48, .f32⟩
  | 80 => ⟨S200x4x48x48, .f32⟩
  | 81 => ⟨S192, .f32⟩
  | 82 => ⟨S_, .f32⟩
  | 83 => ⟨S192, .f32⟩
  | 84 => ⟨S192, .f32⟩
  | 85 => ⟨S_, .f32⟩
  | 86 => ⟨S192, .f32⟩
  | 87 => ⟨S192, .f32⟩
  | 88 => ⟨S_, .f32⟩
  | 89 => ⟨S192, .f32⟩
  | 90 => ⟨S192, .f32⟩
  | 91 => ⟨S48, .f32⟩
  | 92 => ⟨S1x192, .f32⟩
  | 93 => ⟨S48x1, .f32⟩
  | 94 => ⟨S48x192, .f32⟩
  | 95 => ⟨S48x192, .f32⟩
  | 96 => ⟨S48x192, .f32⟩
  | 97 => ⟨S48x192, .f32⟩
  | 98 => ⟨S_, .f32⟩
  | 99 => ⟨S48x192, .f32⟩
  | 100 => ⟨S48x192, .f32⟩
  | 101 => ⟨S_, .f32⟩
  | 102 => ⟨S48x192, .f32⟩
  | 103 => ⟨S48x192, .f32⟩
  | 104 => ⟨S_, .f32⟩
  | 105 => ⟨S192, .f32⟩
  | 106 => ⟨S1x192, .f32⟩
  | 107 => ⟨S48x192, .f32⟩
  | 108 => ⟨S48x192, .f32⟩
  | 109 => ⟨S192x200x4x48, .f32⟩
  | 110 => ⟨S200x4x192x48, .f32⟩
  | 111 => ⟨S200x4x192x192, .f32⟩
  | 112 => ⟨S200x4x192x192, .f32⟩
  | 113 => ⟨S200x4x192x192, .f32⟩
  | 114 => ⟨S_, .f32⟩
  | 115 => ⟨S200x4x192x192, .f32⟩
  | 116 => ⟨S200x4x192x192, .f32⟩
  | 117 => ⟨S_, .f32⟩
  | 118 => ⟨S200x4x192x192, .f32⟩
  | 119 => ⟨S200x4x192x192, .f32⟩
  | 120 => ⟨S_, .f32⟩
  | 121 => ⟨S200x4x192x192, .f32⟩
  | 122 => ⟨S200x4x192x192, .i1⟩
  | 123 => ⟨S2x100x4x192x192, .i1⟩
  | 124 => ⟨S2x4x100x192x192, .i1⟩
  | 125 => ⟨S2x100x1, .i32⟩
  | 126 => ⟨S_, .i32⟩
  | 127 => ⟨S2x100x1, .i32⟩
  | _ => ⟨S2x300x42, .f32⟩

abbrev hbmTy0_1 (i : Nat) : BufTy := match i % 128 with
  | 0 => ⟨S2x100x1, .i1⟩
  | 1 => ⟨S_, .i32⟩
  | 2 => ⟨S2x100x1, .i32⟩
  | 3 => ⟨S2x100x1, .i32⟩
  | 4 => ⟨S2x100x1, .i32⟩
  | 5 => ⟨S1, .i32⟩
  | 6 => ⟨S_, .i32⟩
  | 7 => ⟨S2x100x1, .i32⟩
  | 8 => ⟨S2x100x1, .i1⟩
  | 9 => ⟨S1x1x1, .i32⟩
  | 10 => ⟨S2x100x1, .i32⟩
  | 11 => ⟨S2x100x1, .i1⟩
  | 12 => ⟨S2x100x1, .i1⟩
  | 13 => ⟨S_, .i1⟩
  | 14 => ⟨S2x100, .i1⟩
  | 15 => ⟨S2x100x4, .f32⟩
  | 16 => ⟨S2x100x4, .i1⟩
  | 17 => ⟨S_, .f32⟩
  | 18 => ⟨S2x100x4, .f32⟩
  | 19 => ⟨S2x100x4, .f32⟩
  | 20 => ⟨S2x4x100x180x192, .i1⟩
  | 21 => ⟨S2x4x100x180x192, .f32⟩
  | 22 => ⟨S256, .f32⟩
  | 23 => ⟨S_, .f32⟩
  | 24 => ⟨S256, .f32⟩
  | 25 => ⟨S256, .f32⟩
  | 26 => ⟨S_, .f32⟩
  | 27 => ⟨S256, .f32⟩
  | 28 => ⟨S256, .f32⟩
  | 29 => ⟨S_, .f32⟩
  | 30 => ⟨S256, .f32⟩
  | 31 => ⟨S256, .f32⟩
  | 32 => ⟨S256, .f32⟩
  | 33 => ⟨S256, .i32⟩
  | 34 => ⟨S_, .i32⟩
  | 35 => ⟨S256, .i32⟩
  | 36 => ⟨S256, .i1⟩
  | 37 => ⟨S_, .i32⟩
  | 38 => ⟨S256, .i32⟩
  | 39 => ⟨S256, .i32⟩
  | 40 => ⟨S256, .i32⟩
  | 41 => ⟨S256x1, .i32⟩
  | 42 => ⟨S2x4x100x256x192, .f32⟩
  | 43 => ⟨S256, .f32⟩
  | 44 => ⟨S_, .f32⟩
  | 45 => ⟨S256, .f32⟩
  | 46 => ⟨S256, .f32⟩
  | 47 => ⟨S_, .f32⟩
  | 48 => ⟨S256, .f32⟩
  | 49 => ⟨S256, .f32⟩
  | 50 => ⟨S_, .f32⟩
  | 51 => ⟨S256, .f32⟩
  | 52 => ⟨S256, .f32⟩
  | 53 => ⟨S256, .f32⟩
  | 54 => ⟨S256, .i32⟩
  | 55 => ⟨S_, .i32⟩
  | 56 => ⟨S256, .i32⟩
  | 57 => ⟨S256, .i1⟩
  | 58 => ⟨S_, .i32⟩
  | 59 => ⟨S256, .i32⟩
  | 60 => ⟨S256, .i32⟩
  | 61 => ⟨S256, .i32⟩
  | 62 => ⟨S256x1, .i32⟩
  | 63 => ⟨S2x4x100x256x256, .f32⟩
  | 64 => ⟨S_, .f32⟩
  | 65 => ⟨S2x4x100x256x256, .f32⟩
  | 66 => ⟨S2x4x100x256x256, .i1⟩
  | 67 => ⟨S2x4x100x256x256, .i8⟩
  | 68 => ⟨S2x100x4x256x256, .i8⟩
  | _ => ⟨S2x300x42, .f32⟩

abbrev hbmTy (i : Nat) : BufTy := match i / 128 with
  | 0 => hbmTy0_0 i
  | 1 => hbmTy0_1 i
  | _ => ⟨S2x300x42, .f32⟩

abbrev bufTy : (tb : Table) → Fin (tcTables nBuf tb) → BufTy
  | .hbm, ⟨i, _⟩ => hbmTy i
  | _, _ => ⟨S2x300x42, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_values : Ref sig .tc := ⟨.hbm, 14, rfl⟩
abbrev main_indices : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v7 : Ref sig .tc := ⟨.hbm, 33, rfl⟩
abbrev main_c_1 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v8 : Ref sig .tc := ⟨.hbm, 55, rfl⟩
abbrev main_v9 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v10 : Ref sig .tc := ⟨.hbm, 79, rfl⟩
abbrev main_v11 : Ref sig .tc := ⟨.hbm, 80, rfl⟩
abbrev main_call3_v0 : Ref sig .tc := ⟨.hbm, 81, rfl⟩
abbrev main_call3_cst : Ref sig .tc := ⟨.hbm, 82, rfl⟩
abbrev main_call3_v1 : Ref sig .tc := ⟨.hbm, 83, rfl⟩
abbrev main_call3_v2 : Ref sig .tc := ⟨.hbm, 84, rfl⟩
abbrev main_call3_cst_0 : Ref sig .tc := ⟨.hbm, 85, rfl⟩
abbrev main_call3_v3 : Ref sig .tc := ⟨.hbm, 86, rfl⟩
abbrev main_call3_v4 : Ref sig .tc := ⟨.hbm, 87, rfl⟩
abbrev main_call3_cst_1 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_v12 : Ref sig .tc := ⟨.hbm, 96, rfl⟩
abbrev main_call3_v13 : Ref sig .tc := ⟨.hbm, 97, rfl⟩
abbrev main_call3_cst_2 : Ref sig .tc := ⟨.hbm, 98, rfl⟩
abbrev main_call3_v14 : Ref sig .tc := ⟨.hbm, 99, rfl⟩
abbrev main_call3_v15 : Ref sig .tc := ⟨.hbm, 100, rfl⟩
abbrev main_call3_cst_3 : Ref sig .tc := ⟨.hbm, 101, rfl⟩
abbrev main_call3_v16 : Ref sig .tc := ⟨.hbm, 102, rfl⟩
abbrev main_call3_v17 : Ref sig .tc := ⟨.hbm, 103, rfl⟩
abbrev main_call3_cst_4 : Ref sig .tc := ⟨.hbm, 104, rfl⟩
abbrev main_call3_v18 : Ref sig .tc := ⟨.hbm, 105, rfl⟩
abbrev main_call3_v19 : Ref sig .tc := ⟨.hbm, 106, rfl⟩
abbrev main_call3_v20 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_cst_2 : Ref sig .tc := ⟨.hbm, 114, rfl⟩
abbrev main_v18 : Ref sig .tc := ⟨.hbm, 115, rfl⟩
abbrev main_v19 : Ref sig .tc := ⟨.hbm, 116, rfl⟩
abbrev main_cst_3 : Ref sig .tc := ⟨.hbm, 117, rfl⟩
abbrev main_v20 : Ref sig .tc := ⟨.hbm, 118, rfl⟩
abbrev main_v21 : Ref sig .tc := ⟨.hbm, 119, rfl⟩
abbrev main_cst_4 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_call4_c : Ref sig .tc := ⟨.hbm, 126, rfl⟩
abbrev main_call4_v0 : Ref sig .tc := ⟨.hbm, 127, rfl⟩
abbrev main_call4_v1 : Ref sig .tc := ⟨.hbm, 128, rfl⟩
abbrev main_call4_c_0 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_c_1 : Ref sig .tc := ⟨.hbm, 133, rfl⟩
abbrev main_call4_c_2 : Ref sig .tc := ⟨.hbm, 134, rfl⟩
abbrev main_call4_v5 : Ref sig .tc := ⟨.hbm, 135, rfl⟩
abbrev main_call4_v6 : Ref sig .tc := ⟨.hbm, 136, rfl⟩
abbrev main_call4_v7 : Ref sig .tc := ⟨.hbm, 137, rfl⟩
abbrev main_call4_v8 : Ref sig .tc := ⟨.hbm, 138, rfl⟩
abbrev main_call4_v9 : Ref sig .tc := ⟨.hbm, 139, rfl⟩
abbrev main_call4_v10 : Ref sig .tc := ⟨.hbm, 140, rfl⟩
abbrev main_call4_c_3 : Ref sig .tc := ⟨.hbm, 141, rfl⟩
abbrev main_call4_v11 : Ref sig .tc := ⟨.hbm, 142, rfl⟩
abbrev main_call4_v12 : Ref sig .tc := ⟨.hbm, 143, rfl⟩
abbrev main_call4_v13 : Ref sig .tc := ⟨.hbm, 144, rfl⟩
abbrev main_call4_cst : Ref sig .tc := ⟨.hbm, 145, rfl⟩
abbrev main_call4_v14 : Ref sig .tc := ⟨.hbm, 146, rfl⟩
abbrev main_v27 : Ref sig .tc := ⟨.hbm, 147, rfl⟩
abbrev main_v28 : Ref sig .tc := ⟨.hbm, 148, rfl⟩
abbrev main_v29 : Ref sig .tc := ⟨.hbm, 149, rfl⟩
abbrev main_call5_v0 : Ref sig .tc := ⟨.hbm, 150, rfl⟩
abbrev main_call5_cst : Ref sig .tc := ⟨.hbm, 151, rfl⟩
abbrev main_call5_v1 : Ref sig .tc := ⟨.hbm, 152, rfl⟩
abbrev main_call5_v2 : Ref sig .tc := ⟨.hbm, 153, rfl⟩
abbrev main_call5_cst_0 : Ref sig .tc := ⟨.hbm, 154, rfl⟩
abbrev main_call5_v3 : Ref sig .tc := ⟨.hbm, 155, rfl⟩
abbrev main_call5_v4 : Ref sig .tc := ⟨.hbm, 156, rfl⟩
abbrev main_call5_cst_1 : Ref sig .tc := ⟨.hbm, 157, rfl⟩
abbrev main_call5_v5 : Ref sig .tc := ⟨.hbm, 158, rfl⟩
abbrev main_call5_v6 : Ref sig .tc := ⟨.hbm, 159, rfl⟩
abbrev main_call5_v7 : Ref sig .tc := ⟨.hbm, 160, rfl⟩
abbrev main_call5_v8 : Ref sig .tc := ⟨.hbm, 161, rfl⟩
abbrev main_call5_c : Ref sig .tc := ⟨.hbm, 162, rfl⟩
abbrev main_call5_v9 : Ref sig .tc := ⟨.hbm, 163, rfl⟩
abbrev main_call5_v10 : Ref sig .tc := ⟨.hbm, 164, rfl⟩
abbrev main_call5_c_2 : Ref sig .tc := ⟨.hbm, 165, rfl⟩
abbrev main_call5_v11 : Ref sig .tc := ⟨.hbm, 166, rfl⟩
abbrev main_call5_v12 : Ref sig .tc := ⟨.hbm, 167, rfl⟩
abbrev main_call5_v13 : Ref sig .tc := ⟨.hbm, 168, rfl⟩
abbrev main_call5_v14 : Ref sig .tc := ⟨.hbm, 169, rfl⟩
abbrev main_call5_v15 : Ref sig .tc := ⟨.hbm, 170, rfl⟩
abbrev main_call5_v16 : Ref sig .tc := ⟨.hbm, 171, rfl⟩
abbrev main_call5_cst_3 : Ref sig .tc := ⟨.hbm, 172, rfl⟩
abbrev main_call5_v17 : Ref sig .tc := ⟨.hbm, 173, rfl⟩
abbrev main_call5_v18 : Ref sig .tc := ⟨.hbm, 174, rfl⟩
abbrev main_call5_cst_4 : Ref sig .tc := ⟨.hbm, 175, rfl⟩
abbrev main_call5_v19 : Ref sig .tc := ⟨.hbm, 176, rfl⟩
abbrev main_call5_v20 : Ref sig .tc := ⟨.hbm, 177, rfl⟩
abbrev main_call5_cst_5 : Ref sig .tc := ⟨.hbm, 178, rfl⟩
abbrev main_call5_v21 : Ref sig .tc := ⟨.hbm, 179, rfl⟩
abbrev main_call5_v22 : Ref sig .tc := ⟨.hbm, 180, rfl⟩
abbrev main_call5_v23 : Ref sig .tc := ⟨.hbm, 181, rfl⟩
abbrev main_call5_v24 : Ref sig .tc := ⟨.hbm, 182, rfl⟩
abbrev main_call5_c_6 : Ref sig .tc := ⟨.hbm, 183, rfl⟩
abbrev main_call5_v25 : Ref sig .tc := ⟨.hbm, 184, rfl⟩
abbrev main_call5_v26 : Ref sig .tc := ⟨.hbm, 185, rfl⟩
abbrev main_call5_c_7 : Ref sig .tc := ⟨.hbm, 186, rfl⟩
abbrev main_call5_v27 : Ref sig .tc := ⟨.hbm, 187, rfl⟩
abbrev main_call5_v28 : Ref sig .tc := ⟨.hbm, 188, rfl⟩
abbrev main_call5_v29 : Ref sig .tc := ⟨.hbm, 189, rfl⟩
abbrev main_call5_v30 : Ref sig .tc := ⟨.hbm, 190, rfl⟩
abbrev main_v30 : Ref sig .tc := ⟨.hbm, 191, rfl⟩
abbrev main_cst_5 : Ref sig .tc := ⟨.hbm, 192, rfl⟩
abbrev main_v31 : Ref sig .tc := ⟨.hbm, 193, rfl⟩
abbrev main_v32 : Ref sig .tc := ⟨.hbm, 194, rfl⟩
abbrev main_v33 : Ref sig .tc := ⟨.hbm, 195, rfl⟩
abbrev main_v34 : Ref sig .tc := ⟨.hbm, 196, rfl⟩

abbrev nD : Nat := 1
abbrev τ : Topo := Topo.v7x

variable {F : FTy → Type} [FloatOps F]
-- ==== Proof.TopK.lean ====
module

public import Idealize.ShloMosaic.Lib.SortPrefix
public import Mathlib.Data.EReal.Operations
public import Mathlib.Data.Fintype.Card

@[expose] public section

noncomputable section

namespace Cert.Proof.TopK

open Idealize.ShloMosaic

variable {n : ℕ}

/-- Position `k` comes before `k'`: its entry is greater, or the entries are equal and it is the earlier position. -/
def before (x : Fin n → EReal) (k k' : Fin n) : Bool :=
  decide (x k' < x k) || (decide (x k = x k') && decide (k < k'))

/-- That is a strict total order on the positions. -/
theorem before_strict (x : Fin n → EReal) : StrictTotalBefore (before x) :=
  StrictTotalBefore.of_key_then_position (fun a b : EReal => decide (b < a)) x (by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- A stable sort of an increasing list asks its comparator about a later element and an earlier one only. -/
theorem stableSort_eq (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    show insertBefore R a (stableSort R l) = insertBefore R' a (stableSort R' l)
    rw [ih hl.2]
    exact insertBefore_congr R R' a _ fun b hb => h a b (hl.1 b ((perm_stableSort R' l).mem_iff.mp hb))

/-- The stable sort by "greater" alone is the sort by `before`. -/
theorem sortedFrom_gt (x : Fin n → EReal) (R : Fin n → Fin n → Bool) (hR : ∀ a b, R a b = decide (x b < x a)) (k : Fin n) :
    sortedFrom R k = sortedFrom (before x) k := by
  have e : sortPositions n R = sortPositions n (before x) :=
    stableSort_eq R (before x) (fun a b hab => by
      rw [hR]; unfold before
      have : decide (b < a) = false := by simp [hab.le]
      rw [this]; simp) _ (List.pairwise_lt_finRange n)
  unfold sortedFrom
  simp only [List.get_eq_getElem, e, Fin.val_cast]

/-- `K` rounds, each taking the first position of the greatest entry and overwriting it with minus one: started from entries at
    least zero with minus ones after them, round `k` takes the position the stable sort puts at `k`. -/
theorem rounds {N K : ℕ} (hK : K ≤ n) (hn : n ≤ N) (x : Fin n → EReal) (hx : ∀ i, 0 ≤ x i)
    (p : ℕ → Fin N → EReal) (s : ℕ → Fin N)
    (h0 : ∀ i : Fin N, p 0 i = if h : i.val < n then x ⟨i.val, h⟩ else -1)
    (hmax : ∀ k < K, ∀ i, p k i ≤ p k (s k)) (hmin : ∀ k < K, ∀ i, p k i = p k (s k) → s k ≤ i)
    (hstep : ∀ k < K, ∀ i, p (k + 1) i = if i = s k then -1 else p k i) (k : ℕ) (hk : k < K) :
    (s k).val = (sortedFrom (before x) ⟨k, hk.trans_le hK⟩).val ∧
      p k (s k) = x (sortedFrom (before x) ⟨k, hk.trans_le hK⟩) := by
  have neg : (-1 : EReal) < 0 := by
    have : (-1 : EReal) = ((-1 : ℝ) : EReal) := by simp
    rw [this]; exact_mod_cast (by norm_num : (-1 : ℝ) < 0)
  -- the entries at round `k`
  have hp : ∀ k ≤ K, ∀ i, p k i = if ∃ j < k, s j = i then -1 else p 0 i := by
    intro k
    induction k with
    | zero => intro _ i; simp
    | succ k ih =>
      intro hk i
      rw [hstep k (by omega), ih (by omega)]
      by_cases e : i = s k
      · rw [if_pos e, if_pos ⟨k, by omega, e.symm⟩]
      · rw [if_neg e]
        by_cases h : ∃ j < k, s j = i
        · obtain ⟨j, hj, hji⟩ := h
          rw [if_pos ⟨j, hj, hji⟩, if_pos ⟨j, by omega, hji⟩]
        · rw [if_neg h, if_neg]
          rintro ⟨j, hj, hji⟩
          rcases Nat.lt_succ_iff_lt_or_eq.mp hj with h' | h'
          · exact h ⟨j, h', hji⟩
          · exact e (by rw [← hji, h'])
  -- some entry is at least zero
  have hex : ∀ k < K, 0 ≤ p k (s k) := by
    intro k hk
    have : ∃ i : Fin n, ∀ j : Fin k, s j ≠ Fin.castLE hn i := by
      by_contra hcon
      push Not at hcon
      choose f hf using hcon
      have hinj : Function.Injective f := fun a b hab => by
        have h1 := hf a; rw [hab, hf b] at h1
        exact (Fin.castLE_injective hn h1).symm
      have := Fintype.card_le_of_injective f hinj
      simp only [Fintype.card_fin] at this
      omega
    obtain ⟨i, hi⟩ := this
    refine le_trans ?_ (hmax k hk (Fin.castLE hn i))
    rw [hp k hk.le, if_neg (by rintro ⟨j, hj, e⟩; exact hi ⟨j, hj⟩ e), h0]
    simp only [Fin.val_castLE, i.isLt, dif_pos]
    exact hx i
  have hnew : ∀ k < K, ¬ ∃ j < k, s j = s k := by
    intro k hk h
    have h1 := hex k hk
    rw [hp k hk.le, if_pos h] at h1
    exact absurd neg (not_lt.mpr h1)
  have hval : ∀ k < K, p k (s k) = p 0 (s k) := fun k hk => by rw [hp k hk.le, if_neg (hnew k hk)]
  have hlt : ∀ k < K, (s k).val < n := by
    intro k hk
    by_contra h
    have h1 := hex k hk
    rw [hval k hk, h0, dif_neg h] at h1
    exact absurd neg (not_lt.mpr h1)
  have hp0 : ∀ i : Fin n, p 0 (Fin.castLE hn i) = x i := fun i => by rw [h0]; simp
  have hne : ∀ j < K, ∀ i < K, i ≠ j → s i ≠ s j := by
    intro j hj i hi hij e
    rcases lt_or_gt_of_ne hij with h | h
    · exact hnew j hj ⟨i, h, e⟩
    · exact hnew i hi ⟨j, h, e.symm⟩
  let σ : Fin K → Fin n := fun k => ⟨(s k.val).val, hlt k.val k.isLt⟩
  have hσ : ∀ k : Fin K, Fin.castLE hn (σ k) = s k.val := fun k => Fin.ext rfl
  have key : ∀ (i : Fin K) (q : Fin n), (∀ j : Fin K, j.val < i.val → σ j ≠ q) → q ≠ σ i → before x q (σ i) = false := by
    intro i q hq hqi
    have hpq : p i.val (Fin.castLE hn q) = x q := by
      rw [hp i.val i.isLt.le, if_neg, hp0]
      rintro ⟨j, hj, e⟩
      exact hq ⟨j, hj.trans i.isLt⟩ hj (Fin.castLE_injective hn ((hσ _).trans e))
    have hpi : p i.val (s i.val) = x (σ i) := by rw [hval _ i.isLt, ← hσ, hp0]
    have hle := hmax i.val i.isLt (Fin.castLE hn q)
    rw [hpq, hpi] at hle
    unfold before
    simp only [Bool.or_eq_false_iff, decide_eq_false_iff_not, not_lt, Bool.and_eq_false_iff]
    refine ⟨hle, ?_⟩
    by_cases e : x q = x (σ i)
    · right
      have := hmin i.val i.isLt (Fin.castLE hn q) (by rw [hpq, hpi, e])
      exact Fin.le_def.mpr this
    · left; exact e
  have main := (before_strict x).sortedFrom_eq_of_prefix hK σ
    (fun a b hab => by
      by_contra h
      exact hne b.val b.isLt a.val a.isLt (fun e => h (Fin.ext e)) (by rw [← hσ, ← hσ, hab]))
    (fun i j hij => key i (σ j)
      (fun l hl e => hne j.val j.isLt l.val l.isLt (by have := Fin.lt_def.mp hij; omega) (by rw [← hσ, ← hσ, e]))
      (fun e => hne i.val i.isLt j.val j.isLt (by have := Fin.lt_def.mp hij; omega) (by rw [← hσ, ← hσ, e])))
    (fun i q hq => key i q (fun j _ => hq j) (fun e => hq i e.symm)) ⟨k, hk⟩
  have e2 : (Fin.castLE hK ⟨k, hk⟩ : Fin n) = ⟨k, hk.trans_le hK⟩ := rfl
  rw [e2] at main
  constructor
  · rw [main]
  · rw [main, hval k hk, ← hσ ⟨k, hk⟩, hp0]

end Cert.Proof.TopK

end
-- ==== Proof.Rounds.lean ====
module

public import proofs.«01_k».proof.Proof.TopK
public import proofs.«01_k».proof.Proof.Gen.KernelIdeal.Skeleton
public import Idealize.ShloMosaic.Lib.Pointwise.Tactic
public import Idealize.ShloMosaic.Lib.Pointwise.Reshape
public import Idealize.ShloMosaic.Lib.Exec.Context

@[expose] public section

noncomputable section

namespace Cert.Proof.Rounds

open Idealize.ShloMosaic Cert.KernelIdeal Cert.KernelIdeal.Gen

/-- A running maximum is at least its start and every entry it runs over. -/
theorem le_foldl_max {ι : Type} (g : ι → EReal) (l : List ι) (a : EReal) :
    a ≤ l.foldl (fun r n => max r (g n)) a ∧ ∀ n ∈ l, g n ≤ l.foldl (fun r n => max r (g n)) a := by
  induction l generalizing a with
  | nil => simp
  | cons b l ih =>
    obtain ⟨h1, h2⟩ := ih (max a (g b))
    refine ⟨(le_max_left _ _).trans h1, fun n hn => ?_⟩
    rcases List.mem_cons.mp hn with rfl | hn
    · exact (le_max_right _ _).trans h1
    · exact h2 n hn

/-- A running maximum is its start or one of the entries. -/
theorem foldl_max_mem {ι : Type} (g : ι → EReal) (l : List ι) (a : EReal) :
    l.foldl (fun r n => max r (g n)) a = a ∨ ∃ n ∈ l, l.foldl (fun r n => max r (g n)) a = g n := by
  induction l generalizing a with
  | nil => simp
  | cons b l ih =>
    rcases ih (max a (g b)) with h | ⟨n, hn, h⟩
    · rcases max_choice a (g b) with h' | h'
      · left; exact h.trans h'
      · right; exact ⟨b, List.mem_cons_self, h.trans h'⟩
    · right; exact ⟨n, List.mem_cons_of_mem _ hn, h⟩

/-- A running signed minimum is at most its start and every entry. -/
theorem foldl_min_le {ι : Type} (g : ι → BitVec 32) (l : List ι) (a : BitVec 32) :
    (l.foldl (fun r n => IntOp.minsi r (g n)) a).toInt ≤ a.toInt
      ∧ ∀ n ∈ l, (l.foldl (fun r n => IntOp.minsi r (g n)) a).toInt ≤ (g n).toInt := by
  have key : ∀ x y : BitVec 32, (IntOp.minsi x y).toInt ≤ x.toInt ∧ (IntOp.minsi x y).toInt ≤ y.toInt := by
    intro x y
    unfold IntOp.minsi
    split
    · rename_i h; rw [BitVec.slt_iff_toInt_lt] at h; exact ⟨le_rfl, h.le⟩
    · rename_i h; rw [BitVec.slt_iff_toInt_lt] at h; exact ⟨not_lt.mp h, le_rfl⟩
  induction l generalizing a with
  | nil => simp
  | cons b l ih =>
    obtain ⟨h1, h2⟩ := ih (IntOp.minsi a (g b))
    refine ⟨h1.trans (key a (g b)).1, fun n hn => ?_⟩
    rcases List.mem_cons.mp hn with rfl | hn
    · exact h1.trans (key a (g n)).2
    · exact h2 n hn

/-- A running signed minimum is its start or one of the entries. -/
theorem foldl_min_mem {ι : Type} (g : ι → BitVec 32) (l : List ι) (a : BitVec 32) :
    l.foldl (fun r n => IntOp.minsi r (g n)) a = a ∨ ∃ n ∈ l, l.foldl (fun r n => IntOp.minsi r (g n)) a = g n := by
  induction l generalizing a with
  | nil => simp
  | cons b l ih =>
    rcases ih (IntOp.minsi a (g b)) with h | ⟨n, hn, h⟩
    · by_cases h' : a.slt (g b)
      · left; refine h.trans ?_; simp [IntOp.minsi, h']
      · right; refine ⟨b, List.mem_cons_self, h.trans ?_⟩; simp [IntOp.minsi, h']
    · right; exact ⟨n, List.mem_cons_of_mem _ hn, h⟩

/-- A choice by equality of two reals is an `if` on that equality. -/
theorem select_oeq {α : Type} (a b : EReal) (x y : α) :
    Scalar.select (Ideal.cmp .oeq a b) x y = if a = b then x else y := by
  unfold Ideal.cmp Scalar.select
  by_cases h : a = b <;> simp [h]

/-- A choice by equality of two words is an `if` on that equality. -/
theorem select_eq {α : Type} (a b : BitVec 32) (x y : α) :
    Scalar.select (IntOp.cmpi .eq a b) x y = if a = b then x else y := by
  unfold IntOp.cmpi Scalar.select
  by_cases h : a = b
  · simp [h]
  · have : (a == b) = false := by simpa using h
    simp [h, this]

/-- Two naturals below `2 ^ 32` give the same word only if they are equal. -/
theorem ofNat_inj {a b : ℕ} (ha : a < 2 ^ 32) (hb : b < 2 ^ 32) : BitVec.ofNat 32 a = BitVec.ofNat 32 b ↔ a = b := by
  constructor
  · intro h
    have := congrArg BitVec.toNat h
    simp only [BitVec.toNat_ofNat] at this
    omega
  · intro h; rw [h]

/-- The flat position of an entry of a slab. -/
def flat (i : S99x128.Idx) : ℕ := (i 0).val * 128 + (i 1).val

/-- A position of the slab, counted row by row, is below `99 * 128`. -/
theorem flat_lt (i : S99x128.Idx) : flat i < 12672 := by
  have h0 : (i 0).val < 99 := (i 0).isLt
  have h1 : (i 1).val < 128 := (i 1).isLt
  unfold flat; omega

/-- Two indices of the slab with the same position are equal. -/
theorem flat_inj {i j : S99x128.Idx} (h : flat i = flat j) : i = j := by
  have h0 : (i 1).val < 128 := (i 1).isLt
  have h1 : (j 1).val < 128 := (j 1).isLt
  unfold flat at h
  funext a
  apply Fin.ext
  match a with
  | ⟨0, _⟩ => show (i 0).val = (j 0).val; omega
  | ⟨1, _⟩ => show (i 1).val = (j 1).val; omega

/-- The kernel's flat position of each entry, as a word. -/
theorem flat_apply (i : S99x128.Idx) : k0_pay3 i = BitVec.ofNat 32 (flat i) := by
  unfold k0_pay3 flat
  simp [iota, muli, addi, broadcast, IntOp.muli, IntOp.addi, BitVec.ofNat_add, BitVec.ofNat_mul]

/-- The word of minus one. -/
theorem minus_one : Ideal.ofBits .f32 0xBF800000#32 = -1 := by
  simp [Ideal.ofBits, Ideal.ieee, -EReal.coe_mul]; norm_num

/-- The word of minus infinity. -/
theorem minus_inf : Ideal.ofBits .f32 0xFF800000#32 = ⊥ := by
  simp [Ideal.ofBits, Ideal.ieee]

/-- The slab given a leading axis of one keeps its entries. -/
theorem cast_slab {α : Type} (p : S99x128.Idx → α) (r : Fin 99) (l : Fin 128) :
    shapeCast S1x99x128 p shapeCasts_S99x128_S1x99x128 (ix3 0 r l) = p (ix2 r l) := by
  pointwise

/-- The slab stripped of a leading axis of one keeps its entries. -/
theorem slab_cast {α : Type} (p : S1x99x128.Idx → α) (r : Fin 99) (l : Fin 128) :
    shapeCast S99x128 p shapeCasts_S1x99x128_S99x128 (ix2 r l) = p (ix3 0 r l) := by
  pointwise

/-- A slab's maximum: at least every entry, and one of them. -/
theorem max_spec (p : FVec Ideal S99x128 .f32) :
    (∀ i, p i ≤ k0_pay8 p) ∧ ∃ i, p i = k0_pay8 p := by
  have e : k0_pay8 p = ((List.finRange S1x99x128.numel).map S1x99x128.rowMajor.symm).foldl
      (fun r i => max r (shapeCast S1x99x128 p shapeCasts_S99x128_S1x99x128 i)) ⊥ := by
    unfold k0_pay8
    rw [← minus_inf]
    exact reduceFold_eq_foldl_of_size_one _ (by decide) _ _ _ _
  have hmem : ∀ i, i ∈ (List.finRange S1x99x128.numel).map S1x99x128.rowMajor.symm := fun i =>
    List.mem_map.mpr ⟨S1x99x128.rowMajor i, List.mem_finRange _, Equiv.symm_apply_apply _ _⟩
  have hc : ∀ i : S99x128.Idx, ∃ j, shapeCast S1x99x128 p shapeCasts_S99x128_S1x99x128 j = p i := fun i =>
    ⟨ix3 (n0 := 1) (n1 := 99) (n2 := 128) 0 (i 0) (i 1), (cast_slab p (i 0) (i 1)).trans (congrArg p (eq_ix2 i).symm)⟩
  have hc' : ∀ i, ∃ j, shapeCast S1x99x128 p shapeCasts_S99x128_S1x99x128 i = p j := fun i => ⟨_, rfl⟩
  have hle : ∀ i, p i ≤ k0_pay8 p := fun i => by
    obtain ⟨j, hj⟩ := hc i
    rw [e, ← hj]; exact (le_foldl_max _ _ _).2 _ (hmem _)
  refine ⟨hle, ?_⟩
  rcases foldl_max_mem (fun i => shapeCast S1x99x128 p shapeCasts_S99x128_S1x99x128 i)
      ((List.finRange S1x99x128.numel).map S1x99x128.rowMajor.symm) ⊥ with h | ⟨n, -, h⟩
  · refine ⟨ix2 0 0, le_antisymm (hle _) ?_⟩
    rw [e, h]; exact bot_le
  · obtain ⟨j, hj⟩ := hc' n
    exact ⟨j, (e.trans (h.trans hj)).symm⟩

/-- The word a round picks: the least flat position of an entry equal to the maximum. -/
def pick (p : FVec Ideal S99x128 .f32) : BitVec 32 :=
  extractAt ![0, 0, 0] (shapeCast S1x1x1 (multiReductionI .minsi [1, 2] S1
    (shapeCast S1x99x128 (select (cmpf .oeq p (broadcast S99x128 (k0_pay8 p))) k0_pay3 (broadcast S99x128 1073741824#32))
      shapeCasts_S99x128_S1x99x128) 2147483647#32 reduces_S1x99x128_S1 rfl) shapeCasts_S1_S1x1x1) inpos_S1x1x1_p0_0_0

/-- The word of a position is that position as a signed number. -/
theorem toInt_flat (i : S99x128.Idx) : (BitVec.ofNat 32 (flat i)).toInt = flat i := by
  have := flat_lt i
  have h : (BitVec.ofNat 32 (flat i)).toNat = flat i := by rw [BitVec.toNat_ofNat]; omega
  rw [BitVec.toInt_eq_toNat_of_lt (by rw [h]; omega), h]

/-- The round picks the position of a largest entry, the lowest such position. -/
theorem pick_spec (p : FVec Ideal S99x128 .f32) :
    ∃ i, pick p = BitVec.ofNat 32 (flat i) ∧ p i = k0_pay8 p ∧ ∀ j, p j = k0_pay8 p → flat i ≤ flat j := by
  set v : IVec S99x128 32 := select (cmpf .oeq p (broadcast S99x128 (k0_pay8 p))) k0_pay3 (broadcast S99x128 1073741824#32) with hv
  have hvi : ∀ i, v i = if p i = k0_pay8 p then BitVec.ofNat 32 (flat i) else 1073741824#32 := fun i => by
    rw [hv]
    rw [ValueIdx.select_apply, ValueIdx.cmpf_apply, ValueIdx.broadcast_apply, ValueIdx.broadcast_apply, flat_apply]
    exact select_oeq _ _ _ _
  have e : pick p = ((List.finRange S1x99x128.numel).map S1x99x128.rowMajor.symm).foldl
      (fun r i => IntOp.minsi r (shapeCast S1x99x128 v shapeCasts_S99x128_S1x99x128 i)) 2147483647#32 := by
    unfold pick
    rw [extractAt, shapeCast]
    exact reduceFold_eq_foldl_of_size_one _ (by decide) _ _ _ _
  have hmem : ∀ i, i ∈ (List.finRange S1x99x128.numel).map S1x99x128.rowMajor.symm := fun i =>
    List.mem_map.mpr ⟨S1x99x128.rowMajor i, List.mem_finRange _, Equiv.symm_apply_apply _ _⟩
  have hc : ∀ i : S99x128.Idx, ∃ j, shapeCast S1x99x128 v shapeCasts_S99x128_S1x99x128 j = v i := fun i =>
    ⟨ix3 (n0 := 1) (n1 := 99) (n2 := 128) 0 (i 0) (i 1), (cast_slab v (i 0) (i 1)).trans (congrArg v (eq_ix2 i).symm)⟩
  have hle : ∀ j, p j = k0_pay8 p → (pick p).toInt ≤ flat j := fun j hj => by
    obtain ⟨j', hj'⟩ := hc j
    have := (foldl_min_le (fun i => shapeCast S1x99x128 v shapeCasts_S99x128_S1x99x128 i)
      ((List.finRange S1x99x128.numel).map S1x99x128.rowMajor.symm) 2147483647#32).2 _ (hmem j')
    rw [← e, hj', hvi, if_pos hj, toInt_flat] at this
    exact this
  obtain ⟨j₀, hj₀⟩ := (max_spec p).2
  have hlt := hle j₀ hj₀
  have hfl := flat_lt j₀
  rcases foldl_min_mem (fun i => shapeCast S1x99x128 v shapeCasts_S99x128_S1x99x128 i)
      ((List.finRange S1x99x128.numel).map S1x99x128.rowMajor.symm) 2147483647#32 with h | ⟨n, -, h⟩
  · rw [e, h] at hlt
    have : (2147483647#32).toInt = 2147483647 := by decide
    omega
  · obtain ⟨i, hi⟩ : ∃ j, shapeCast S1x99x128 v shapeCasts_S99x128_S1x99x128 n = v j := ⟨_, rfl⟩
    have h' : pick p = v i := e.trans (h.trans hi)
    by_cases hp : p i = k0_pay8 p
    · rw [hvi, if_pos hp] at h'
      refine ⟨i, h', hp, fun j hj => ?_⟩
      have := hle j hj
      rw [h', toInt_flat] at this
      exact_mod_cast this
    · rw [hvi, if_neg hp] at h'
      rw [h'] at hlt
      have : (1073741824#32).toInt = 1073741824 := by decide
      omega

/-- The entry a round picks. -/
def chosen (p : FVec Ideal S99x128 .f32) : S99x128.Idx := (pick_spec p).choose

/-- The word picked is the chosen position. -/
theorem pick_eq (p : FVec Ideal S99x128 .f32) : pick p = BitVec.ofNat 32 (flat (chosen p)) := (pick_spec p).choose_spec.1
/-- The entry at the chosen position is the largest. -/
theorem chosen_max (p : FVec Ideal S99x128 .f32) : p (chosen p) = k0_pay8 p := (pick_spec p).choose_spec.2.1
/-- No position of a largest entry lies below the chosen one. -/
theorem chosen_first (p : FVec Ideal S99x128 .f32) (j) (h : p j = k0_pay8 p) : flat (chosen p) ≤ flat j :=
  (pick_spec p).choose_spec.2.2 j h

/-- A round overwrites the entry picked with minus one and leaves the others. -/
theorem step_apply (p : FVec Ideal S99x128 .f32) (i : S99x128.Idx) :
    k0_pay14 p i = if flat i = flat (chosen p) then -1 else p i := by
  have e : k0_pay14 p = select (cmpi .eq k0_pay3 (broadcast S99x128 (pick p)))
      (broadcast S99x128 (Scalar.ofBits .f32 0xBF800000#32)) p := rfl
  rw [e]
  have h1 := flat_lt i
  have h2 := flat_lt (chosen p)
  rw [ValueIdx.select_apply, ValueIdx.broadcast_apply]
  unfold cmpi
  rw [ValueIdx.broadcast_apply, flat_apply, pick_eq, select_eq]
  simp only [ofNat_inj (a := flat i) (b := flat (chosen p)) (by omega) (by omega)]
  exact congrArg (fun z => if flat i = flat (chosen p) then z else p i) minus_one

/-- The lane counter at lane `l` is `l`. -/
theorem lane_apply (l : Fin 128) : iota .tc S1x128 32 [1] iota_S1x128_d1_w32 (ix2 0 l) = BitVec.ofNat 32 l.val := by
  simp [iota]

/-- The loop counter of trip `k` is `k`. -/
theorem iv_eq (k : Fin k0_t1_loop.trips) : Scf.iv 0#32 1#32 k = BitVec.ofNat 32 k.val := by simp [Scf.iv]

/-- A round writes the largest entry at its own lane of the scores and leaves the other lanes. -/
theorem scores_apply (k : Fin k0_t1_loop.trips) (p : FVec Ideal S99x128 .f32) (s : FVec Ideal S1x128 .f32) (l : Fin 128) :
    k0_pay10 k p s (ix2 0 l) = if l.val = k.val then k0_pay8 p else s (ix2 0 l) := by
  have hk : k.val < 100 := k.isLt
  have hl := l.isLt
  have e : k0_pay10 k p s = select (cmpi .eq (iota .tc S1x128 32 [1] iota_S1x128_d1_w32) (broadcast S1x128 (Scf.iv 0#32 1#32 k)))
      (broadcast S1x128 (k0_pay8 p)) s := rfl
  rw [e, ValueIdx.select_apply, ValueIdx.broadcast_apply]
  unfold cmpi
  rw [ValueIdx.broadcast_apply, lane_apply, iv_eq, select_eq]
  simp only [ofNat_inj (a := l.val) (b := k.val) (by omega) (by omega)]

/-- A round writes the position picked at its own lane of the positions and leaves the other lanes. -/
theorem picks_apply (k : Fin k0_t1_loop.trips) (p : FVec Ideal S99x128 .f32) (s : IVec S1x128 32) (l : Fin 128) :
    k0_pay12 k p s (ix2 0 l) = if l.val = k.val then pick p else s (ix2 0 l) := by
  have hk : k.val < 100 := k.isLt
  have hl := l.isLt
  have e : k0_pay12 k p s = select (cmpi .eq (iota .tc S1x128 32 [1] iota_S1x128_d1_w32) (broadcast S1x128 (Scf.iv 0#32 1#32 k)))
      (broadcast S1x128 (pick p)) s := rfl
  rw [e, ValueIdx.select_apply, ValueIdx.broadcast_apply]
  unfold cmpi
  rw [ValueIdx.broadcast_apply, lane_apply, iv_eq, select_eq]
  simp only [ofNat_inj (a := l.val) (b := k.val) (by omega) (by omega)]

/-- The second image takes its largest entry as the first does. -/
theorem pay9_eq : k0_pay9 (F := Ideal) = k0_pay8 := by funext p; unfold k0_pay9 k0_pay8; rfl
/-- The second image overwrites its pick as the first does. -/
theorem pay15_eq : k0_pay15 (F := Ideal) = k0_pay14 := by funext p; unfold k0_pay15 k0_pay14; rw [pay9_eq]
/-- The second image records its scores as the first does. -/
theorem pay11_eq : k0_pay11 (F := Ideal) = k0_pay10 := by funext k p s; unfold k0_pay11 k0_pay10; rw [pay9_eq]
/-- The second image records its positions as the first does. -/
theorem pay13_eq : k0_pay13 (F := Ideal) = k0_pay12 := by funext k p s; unfold k0_pay13 k0_pay12; rw [pay9_eq]

/-- The slab after `k` rounds. -/
def after (p : FVec Ideal S99x128 .f32) (k : ℕ) : FVec Ideal S99x128 .f32 := k0_pay14^[k] p

/-- One more round overwrites one more entry. -/
theorem after_succ (p : FVec Ideal S99x128 .f32) (k : ℕ) : after p (k + 1) = k0_pay14 (after p k) :=
  Function.iterate_succ_apply' _ _ _

/-- A fold over the trips, read by an invariant stated at each trip. -/
theorem fold_inv {n : ℕ} {σ : Type} (g : Fin n → σ → σ) (init : σ) (I : ℕ → σ → Prop) (h0 : I 0 init)
    (hs : ∀ (k : Fin n) s, I k.val s → I (k.val + 1) (g k s)) : I n (Scf.fold g init) := by
  rw [Scf.fold_eq]
  have key : ∀ k ≤ n, I k (((List.finRange n).take k).foldl (fun acc k => g k acc) init) := by
    intro k
    induction k with
    | zero => intro _; simpa using h0
    | succ k ih =>
      intro hk
      have hl : k < (List.finRange n).length := by simpa using hk
      rw [List.take_succ_eq_append_getElem hl, List.foldl_append]
      have := hs ⟨k, hk⟩ _ (ih (by omega))
      simpa using this
  have := key n le_rfl
  rwa [List.take_of_length_le (by simp)] at this

open Cert.Proof.TopK in
/-- The rounds on a slab laid out flat: `x` in the first 12600 places, minus ones after. Round `k` reads the entry, and the
    position, that the stable sort puts at `k`. -/
theorem rounds_slab (p : FVec Ideal S99x128 .f32) (x : Fin 12600 → EReal) (hx : ∀ i, 0 ≤ x i)
    (hp : ∀ i, p i = if h : flat i < 12600 then x ⟨flat i, h⟩ else -1) (k : ℕ) (hk : k < 100) :
    k0_pay8 (after p k) = x (sortedFrom (before x) ⟨k, by omega⟩)
      ∧ pick (after p k) = BitVec.ofNat 32 (sortedFrom (before x) ⟨k, by omega⟩).val := by
  let un : Fin 12672 → S99x128.Idx := fun i => ix2 ⟨i.val / 128, by omega⟩ ⟨i.val % 128, by omega⟩
  have hun : ∀ i, flat (un i) = i.val := fun i => by
    show i.val / 128 * 128 + i.val % 128 = i.val; omega
  have hnu : ∀ i : S99x128.Idx, un ⟨flat i, flat_lt i⟩ = i := fun i => flat_inj (hun _)
  have := rounds (n := 12600) (N := 12672) (K := 100) (by omega) (by omega) x hx
    (fun k i => after p k (un i)) (fun k => ⟨flat (chosen (after p k)), flat_lt _⟩)
    (fun i => by
      show p (un i) = _
      rw [hp]
      simp only [hun])
    (fun k _ i => by
      rw [hnu, chosen_max (after p _)]; exact (max_spec _).1 _)
    (fun k _ i h => by
      rw [hnu, chosen_max (after p _)] at h
      have := chosen_first _ _ h
      rw [hun] at this
      exact Fin.le_def.mpr this)
    (fun k _ i => by
      rw [after_succ, step_apply, hun]
      by_cases h : i.val = flat (chosen (after p k))
      · rw [if_pos h, if_pos (Fin.ext h)]
      · rw [if_neg h, if_neg (fun h' => h (congrArg Fin.val h'))]) k hk
  rw [hnu, chosen_max (after p _)] at this
  exact ⟨this.2, by rw [pick_eq]; exact congrArg (BitVec.ofNat 32) this.1⟩

open Cert.Proof.TopK in
/-- What the kernel's loop ends holding: in the first hundred lanes of each image's row of scores the entries in sorted order, and
    of its row of positions the positions. -/
theorem loop_spec (v8 v10 : Vec Ideal S1x99x128 .f32) (x y : Fin 12600 → EReal) (hx : ∀ i, 0 ≤ x i) (hy : ∀ i, 0 ≤ y i)
    (h8 : ∀ (r : Fin 99) (l : Fin 128), v8 (ix3 0 r l) = if h : r.val * 128 + l.val < 12600 then x ⟨_, h⟩ else -1)
    (h10 : ∀ (r : Fin 99) (l : Fin 128), v10 (ix3 0 r l) = if h : r.val * 128 + l.val < 12600 then y ⟨_, h⟩ else -1)
    (l : Fin 128) (hl : l.val < 100) :
    let s := Scf.fold (n := k0_t1_loop.trips) (fun k (a : FVec Ideal S99x128 .f32 × FVec Ideal S99x128 .f32 ×
        FVec Ideal S1x128 .f32 × FVec Ideal S1x128 .f32 × IVec S1x128 32 × IVec S1x128 32) =>
        (k0_pay14 a.1, k0_pay15 a.2.1, k0_pay10 k a.1 a.2.2.1, k0_pay11 k a.2.1 a.2.2.2.1, k0_pay12 k a.1 a.2.2.2.2.1,
          k0_pay13 k a.2.1 a.2.2.2.2.2))
      (k0_pay6 v8, k0_pay7 v10, k0_pay4 (F := Ideal), k0_pay4 (F := Ideal), k0_pay5, k0_pay5)
    s.2.2.1 (ix2 0 l) = x (sortedFrom (before x) ⟨l.val, by omega⟩)
      ∧ s.2.2.2.1 (ix2 0 l) = y (sortedFrom (before y) ⟨l.val, by omega⟩)
      ∧ s.2.2.2.2.1 (ix2 0 l) = BitVec.ofNat 32 (sortedFrom (before x) ⟨l.val, by omega⟩).val
      ∧ s.2.2.2.2.2 (ix2 0 l) = BitVec.ofNat 32 (sortedFrom (before y) ⟨l.val, by omega⟩).val := by
  intro s
  have hI := fold_inv (n := k0_t1_loop.trips) (fun k (a : FVec Ideal S99x128 .f32 × FVec Ideal S99x128 .f32 ×
        FVec Ideal S1x128 .f32 × FVec Ideal S1x128 .f32 × IVec S1x128 32 × IVec S1x128 32) =>
        (k0_pay14 a.1, k0_pay15 a.2.1, k0_pay10 k a.1 a.2.2.1, k0_pay11 k a.2.1 a.2.2.2.1, k0_pay12 k a.1 a.2.2.2.2.1,
          k0_pay13 k a.2.1 a.2.2.2.2.2))
      (k0_pay6 v8, k0_pay7 v10, k0_pay4 (F := Ideal), k0_pay4 (F := Ideal), k0_pay5, k0_pay5)
    (fun k a => a.1 = after (k0_pay6 v8) k ∧ a.2.1 = after (k0_pay7 v10) k ∧ ∀ l : Fin 128, l.val < k →
      a.2.2.1 (ix2 0 l) = k0_pay8 (after (k0_pay6 v8) l.val) ∧ a.2.2.2.1 (ix2 0 l) = k0_pay8 (after (k0_pay7 v10) l.val)
      ∧ a.2.2.2.2.1 (ix2 0 l) = pick (after (k0_pay6 v8) l.val) ∧ a.2.2.2.2.2 (ix2 0 l) = pick (after (k0_pay7 v10) l.val))
    ⟨rfl, rfl, fun l h => absurd h (by omega)⟩
    (fun k a ⟨h1, h2, h3⟩ => by
      refine ⟨?_, ?_, fun l hl => ?_⟩
      · dsimp only; rw [h1, after_succ]
      · dsimp only; rw [h2, after_succ, pay15_eq]
      · dsimp only
        rw [pay11_eq, pay13_eq, scores_apply, scores_apply, picks_apply, picks_apply]
        by_cases h : l.val = k.val
        · simp only [if_pos h]; rw [h1, h2, h]; exact ⟨rfl, rfl, rfl, rfl⟩
        · simp only [if_neg h]; exact h3 l (by omega))
  have ht : k0_t1_loop.trips = 100 := by decide
  obtain ⟨-, -, h⟩ := hI
  have h := h l (by rw [ht]; exact hl)
  have a8 := rounds_slab (k0_pay6 v8) x hx (fun i => by
    rw [show k0_pay6 v8 i = v8 (ix3 (n0 := 1) (n1 := 99) (n2 := 128) 0 (i 0) (i 1)) from by
      rw [show i = ix2 (n0 := 99) (n1 := 128) (i 0) (i 1) from eq_ix2 i]; exact slab_cast v8 (i 0) (i 1)]
    exact h8 (i 0) (i 1)) l.val hl
  have a10 := rounds_slab (k0_pay7 v10) y hy (fun i => by
    rw [show k0_pay7 v10 i = v10 (ix3 (n0 := 1) (n1 := 99) (n2 := 128) 0 (i 0) (i 1)) from by
      rw [show i = ix2 (n0 := 99) (n1 := 128) (i 0) (i 1) from eq_ix2 i]; exact slab_cast v10 (i 0) (i 1)]
    exact h10 (i 0) (i 1)) l.val hl
  exact ⟨h.1.trans a8.1, h.2.1.trans a10.1, h.2.2.1.trans a8.2, h.2.2.2.trans a10.2⟩

end Cert.Proof.Rounds
-- ==== Proof.Region0.lean ====
module

public import proofs.«01_k».proof.Proof.Rounds
public import proofs.«01_k».proof.Proof.Gen.KernelIdeal.Frame
public import Idealize.ShloMosaic.Lib.Pipeline.ValueKit.Tiles
public import Idealize.ShloMosaic.Lib.Pointwise.Contract
public import Idealize.ShloMosaic.Lib.Pipeline.ValueKit.Geometry

@[expose] public section

noncomputable section

namespace Cert.Proof.Region0

open Cert.Proof.TopK Cert.Proof.Rounds
open Idealize.ShloMosaic Idealize.ShloMosaic.TcCoe Idealize.SL.Sem Cert.KernelIdeal Cert.KernelIdeal.Gen

/-- The kernel's word for a position divided by the number of classes, rounded down. -/
def quot (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 42#32 0#32)) (Scalar.extui (Scalar.cmpi .slt 42#32 0#32))))
      (IntOp.cmpi .ne (IntOp.remsi .vector w 42#32) 0#32))
    (IntOp.subi (IntOp.divsi .vector w 42#32) 1#32)
    (IntOp.divsi .vector w 42#32)

/-- The kernel's word for the remainder of a position by the number of classes. -/
def rem (w : BitVec 32) : BitVec 32 :=
  Scalar.select
    (IntOp.andi
      (IntOp.xori (IntOp.cmpi .slt (IntOp.remsi .vector w 42#32) 0#32) (Scalar.cmpi .slt 42#32 0#32))
      (IntOp.cmpi .ne (IntOp.remsi .vector w 42#32) 0#32))
    (IntOp.addi (IntOp.remsi .vector w 42#32) 42#32)
    (IntOp.remsi .vector w 42#32)

/-- For every position `a * 42 + b` of the scores, the floor division by 42 gives `a` and its remainder gives `b`. -/
theorem quot_rem : ∀ a : Fin 300, ∀ b : Fin 42, quot (BitVec.ofNat 32 (a.val * 42 + b.val)) = BitVec.ofNat 32 a.val
    ∧ rem (BitVec.ofNat 32 (a.val * 42 + b.val)) = BitVec.ofNat 32 b.val := by
  decide +kernel

/-- The kernel's quotient word of a position is the word of the quotient. -/
theorem quot_eq (n : Nat) (h : n < 12600) : quot (BitVec.ofNat 32 n) = BitVec.ofNat 32 (n / 42) := by
  have := (quot_rem ⟨n / 42, by omega⟩ ⟨n % 42, by omega⟩).1
  simpa only [Nat.div_add_mod'] using this

/-- The kernel's remainder word of a position is the word of the remainder. -/
theorem rem_eq (n : Nat) (h : n < 12600) : rem (BitVec.ofNat 32 n) = BitVec.ofNat 32 (n % 42) := by
  have := (quot_rem ⟨n / 42, by omega⟩ ⟨n % 42, by omega⟩).2
  simpa only [Nat.div_add_mod'] using this

/-- The first image divides each position by 42, lane by lane. -/
theorem pay16_apply (v : IVec S1x128 32) (l : Fin 128) : k0_pay16 v (ix2 0 l) = quot (v (ix2 0 l)) := by
  unfold k0_pay16 quot
  simp only [pointwise]

/-- The second image divides each position by 42, lane by lane. -/
theorem pay22_apply (v : IVec S1x128 32) (l : Fin 128) : k0_pay22 v (ix2 0 l) = quot (v (ix2 0 l)) := by
  unfold k0_pay22 quot
  simp only [pointwise]

/-- The labels stored for the first image are the remainders of the positions by 42. -/
theorem pay19_apply (v : IVec S1x128 32) (l : Fin 128) : k0_pay19 v (ix3 0 0 l) = rem (v (ix2 0 l)) := by
  unfold k0_pay19 rem
  simp only [pointwise]
  rfl

/-- The labels stored for the second image are the remainders of the positions by 42. -/
theorem pay1_apply (v : IVec S1x128 32) (l : Fin 128) :
    k0_pay1 (42#32) (k0_pay25 v) (k0_pay26 v) (k0_pay27 v) (ix3 0 0 l) = rem (v (ix2 0 l)) := by
  unfold k0_pay1 k0_pay26 k0_pay27 k0_pay25 rem
  simp only [pointwise]
  rfl

/-- The queries stored for the first image are those computed, with a leading axis of one added. -/
theorem pay18_apply (v : IVec S1x128 32) (l : Fin 128) : k0_pay18 v (ix3 0 0 l) = v (ix2 0 l) := by
  unfold k0_pay18
  simp only [pointwise]

/-- The queries stored for the second image are the quotients of the positions by 42. -/
theorem pay24_apply (v : IVec S1x128 32) (l : Fin 128) : k0_pay24 v (ix3 0 0 l) = quot (v (ix2 0 l)) := by
  rw [← pay22_apply]
  unfold k0_pay24
  simp only [pointwise]

/-- The scores stored for the first image are those collected, with a leading axis of one added. -/
theorem pay17_apply (v : FVec Ideal S1x128 .f32) (l : Fin 128) : k0_pay17 v (ix3 0 0 l) = v (ix2 0 l) := by
  unfold k0_pay17
  simp only [pointwise]

/-- The scores stored for the second image are those collected, with a leading axis of one added. -/
theorem pay23_apply (v : FVec Ideal S1x128 .f32) (l : Fin 128) : k0_pay23 v (ix3 0 0 l) = v (ix2 0 l) := by
  unfold k0_pay23
  simp only [pointwise]

/-- An indicator of equal words below `2 ^ 32`, read as a number. -/
theorem indicator (a b : Nat) (ha : a < 4294967296) (hb : b < 4294967296) :
    FloatOps.sitofp (F := Ideal) FTy.f32 (BitVec.setWidth 32 (IntOp.cmpi .eq (BitVec.ofNat 32 a) (BitVec.ofNat 32 b)))
      = if a = b then (1 : EReal) else 0 := by
  by_cases h : a = b
  · subst h
    rw [if_pos rfl]
    have : IntOp.cmpi .eq (BitVec.ofNat 32 a) (BitVec.ofNat 32 a) = 1#1 := by simp [IntOp.cmpi]
    rw [this]
    change ((((BitVec.setWidth 32 (1#1)).toInt : ℤ) : ℝ) : EReal) = 1
    norm_num
  · rw [if_neg h]
    have : IntOp.cmpi .eq (BitVec.ofNat 32 a) (BitVec.ofNat 32 b) = 0#1 := by
      have hne : (BitVec.ofNat 32 a == BitVec.ofNat 32 b) = false := by
        rw [beq_eq_false_iff_ne]
        intro h'
        apply h
        have := congrArg BitVec.toNat h'
        simp only [BitVec.toNat_ofNat] at this
        omega
      simp only [IntOp.cmpi, hne]; rfl
    rw [this]
    change ((((BitVec.setWidth 32 (0#1)).toInt : ℤ) : ℝ) : EReal) = 0
    norm_num

/-- The kernel's one-hot product of the table of points: the row the word names. -/
theorem onehot_apply (v : IVec S1x128 32) (w : Vec Ideal S1x304x4 .f32) (l : Fin 128) (d : Fin 4) (n : Fin 304)
    (hv : v (ix2 0 l) = BitVec.ofNat 32 n.val) :
    k0_pay20 (F := Ideal) (iota .tc S304x128 32 [0] iota_S304x128_d0_w32) v w (ix2 l d) = w (ix3 0 n d) := by
  unfold k0_pay20
  simp only [pointwise]
  rw [zero_add]
  have hterm : ∀ x : Fin 304, FloatOps.sitofp (F := Ideal) FTy.f32 (BitVec.setWidth 32 (IntOp.cmpi .eq
      (BitVec.ofNat 32 (List.foldl (fun n a => n * ![304, 128] a + ((ix2 x l : S304x128.Idx) a).val) 0 [0]))
      (v (ix2 0 l)))) * w (ix3 0 x d) = if x = n then w (ix3 0 x d) else 0 := by
    intro x
    have e : List.foldl (fun n a => n * ![304, 128] a + ((ix2 x l : S304x128.Idx) a).val) 0 [0] = x.val := by
      simp
    rw [e, hv, indicator _ _ (by omega) (by omega)]
    by_cases h : x = n
    · rw [if_pos h, if_pos (congrArg Fin.val h), one_mul]
    · rw [if_neg h, if_neg (fun h' => h (Fin.ext h')), zero_mul]
  refine (Finset.sum_congr rfl fun x _ => hterm x).trans ?_
  rw [Finset.sum_ite_eq' Finset.univ n, if_pos (Finset.mem_univ n)]

/-- The reference points stored are those gathered, with a leading axis of one added. -/
theorem pay21_apply (v : FVec Ideal S128x4 .f32) (l : Fin 128) (d : Fin 4) : k0_pay21 v (ix3 0 l d) = v (ix2 l d) := by
  unfold k0_pay21
  simp only [pointwise]

/-- The second image gathers its reference points as the first does. -/
theorem pay2_eq (a : IVec S304x128 32) (v : IVec S1x128 32) (w : Vec Ideal S1x304x4 .f32) :
    k0_pay2 a v w = k0_pay21 (k0_pay20 a v w) := rfl

/-- The position of the `k`-th largest of an image's scores, an equal score at a lower position first. -/
def pos (x : Fin 12600 → EReal) (k : Fin 100) : Fin 12600 := sortedFrom (before x) ⟨k.val, by omega⟩

variable (V : (c : Dev nD) → (b : Ref sig .tc) → Buf (Elt Ideal) ((c : Thread nD τ).loc b))

section

variable (c : Dev nD) (t : Fin cfg0.N) (x : Fin 2 → Fin 12600 → EReal) (hx : ∀ b i, 0 ≤ x b i)
  (hb : ∀ (b : Fin 2) (r : Fin 99) (l : Fin 128),
    iblk0 (F := Ideal) V c 0 t (ix3 b r l) = if h : r.val * 128 + l.val < 12600 then x b ⟨_, h⟩ else -1)

include hb

/-- The first image loads its own scores, padded with minus one. -/
theorem slab0 (r : Fin 99) (l : Fin 128) :
    View.ld (iblk0 (F := Ideal) V c 0 t) (Rect.unit ![0, 0, 0] ![1, 99, 128] inb_S2x99x128_S1x99x128_0_0_0) (ix3 0 r l)
      = if h : r.val * 128 + l.val < 12600 then x 0 ⟨_, h⟩ else -1 := by
  rw [← hb 0 r l]
  exact View.ld_unit_apply_of (S := S2x99x128) (Val := Elt Ideal) (e := .f32) (iblk0 (F := Ideal) V c 0 t) ![0, 0, 0] ![1, 99, 128]
    inb_S2x99x128_S1x99x128_0_0_0 (ix3 0 r l) (ix3 0 r l) (fun a => by fin_cases a <;> simp)

/-- The second image loads its own scores, padded with minus one. -/
theorem slab1 (r : Fin 99) (l : Fin 128) :
    View.ld (iblk0 (F := Ideal) V c 0 t) (Rect.unit ![1, 0, 0] ![1, 99, 128] inb_S2x99x128_S1x99x128_1_0_0) (ix3 0 r l)
      = if h : r.val * 128 + l.val < 12600 then x 1 ⟨_, h⟩ else -1 := by
  rw [← hb 1 r l]
  exact View.ld_unit_apply_of (S := S2x99x128) (Val := Elt Ideal) (e := .f32) (iblk0 (F := Ideal) V c 0 t) ![1, 0, 0] ![1, 99, 128]
    inb_S2x99x128_S1x99x128_1_0_0 (ix3 0 r l) (ix3 1 r l) (fun a => by fin_cases a <;> simp)

include hx

/-- The first call stores at lane `l` the `l`-th largest score of the image. -/
theorem scores (b : Fin 2) (l : Fin 128) (hl : l.val < 100) :
    (outsAt0 (F := Ideal) V c t).1 (ix3 b 0 l) = x b (pos (x b) ⟨l.val, hl⟩) := by
  have H := loop_spec _ _ (x 0) (x 1) (hx 0) (hx 1) (slab0 V c t x hb) (slab1 V c t x hb) l hl
  unfold outsAt0
  dsimp only
  frame_out
  canon_tiles y h
  · have hy : y = ix3 (n0 := 1) (n1 := 1) (n2 := 128) 0 0 l := by
      rw [eq_ix3 y]; congr 1 <;> apply Fin.ext <;> simp_all
    have hb1 : b = 1 := Fin.ext (by simp at h0; omega)
    subst hb1 hy
    rw [pay23_apply]
    exact H.2.1
  · have hy : y = ix3 (n0 := 1) (n1 := 1) (n2 := 128) 0 0 l := by
      rw [eq_ix3 y]; congr 1 <;> apply Fin.ext <;> simp_all
    have hb1 : b = 0 := Fin.ext (by simp at h0; omega)
    subst hb1 hy
    rw [pay17_apply]
    exact H.1

/-- The first call stores at lane `l` the query of the `l`-th largest score. -/
theorem boxes (b : Fin 2) (l : Fin 128) (hl : l.val < 100) :
    (outsAt0 (F := Ideal) V c t).2.1 (ix3 b 0 l) = BitVec.ofNat 32 ((pos (x b) ⟨l.val, hl⟩).val / 42) := by
  have H := loop_spec _ _ (x 0) (x 1) (hx 0) (hx 1) (slab0 V c t x hb) (slab1 V c t x hb) l hl
  unfold outsAt0
  dsimp only
  frame_out
  canon_tiles y h
  · have hy : y = ix3 (n0 := 1) (n1 := 1) (n2 := 128) 0 0 l := by
      rw [eq_ix3 y]; congr 1 <;> apply Fin.ext <;> simp_all
    have hb1 : b = 1 := Fin.ext (by simp at h0; omega)
    subst hb1 hy
    rw [pay24_apply]
    exact (congrArg quot H.2.2.2).trans (quot_eq _ (pos (x 1) ⟨l.val, hl⟩).isLt)
  · have hy : y = ix3 (n0 := 1) (n1 := 1) (n2 := 128) 0 0 l := by
      rw [eq_ix3 y]; congr 1 <;> apply Fin.ext <;> simp_all
    have hb1 : b = 0 := Fin.ext (by simp at h0; omega)
    subst hb1 hy
    rw [pay18_apply, pay16_apply]
    exact (congrArg quot H.2.2.1).trans (quot_eq _ (pos (x 0) ⟨l.val, hl⟩).isLt)

/-- The first call stores at lane `l` the label of the `l`-th largest score. -/
theorem labels (b : Fin 2) (l : Fin 128) (hl : l.val < 100) :
    (outsAt0 (F := Ideal) V c t).2.2.1 (ix3 b 0 l) = BitVec.ofNat 32 ((pos (x b) ⟨l.val, hl⟩).val % 42) := by
  have H := loop_spec _ _ (x 0) (x 1) (hx 0) (hx 1) (slab0 V c t x hb) (slab1 V c t x hb) l hl
  unfold outsAt0
  dsimp only
  frame_out
  canon_tiles y h
  · have hy : y = ix3 (n0 := 1) (n1 := 1) (n2 := 128) 0 0 l := by
      rw [eq_ix3 y]; congr 1 <;> apply Fin.ext <;> simp_all
    have hb1 : b = 1 := Fin.ext (by simp at h0; omega)
    subst hb1 hy
    rw [pay1_apply]
    exact (congrArg rem H.2.2.2).trans (rem_eq _ (pos (x 1) ⟨l.val, hl⟩).isLt)
  · have hy : y = ix3 (n0 := 1) (n1 := 1) (n2 := 128) 0 0 l := by
      rw [eq_ix3 y]; congr 1 <;> apply Fin.ext <;> simp_all
    have hb1 : b = 0 := Fin.ext (by simp at h0; omega)
    subst hb1 hy
    rw [pay19_apply]
    exact (congrArg rem H.2.2.1).trans (rem_eq _ (pos (x 0) ⟨l.val, hl⟩).isLt)

/-- The first call stores at row `l` the reference point of the query of the `l`-th largest score. -/
theorem refs (b : Fin 2) (l : Fin 128) (hl : l.val < 100) (d : Fin 4) :
    (outsAt0 (F := Ideal) V c t).2.2.2 (ix3 b l d) = iblk0 (F := Ideal) V c 1 t (ix3 b ⟨(pos (x b) ⟨l.val, hl⟩).val / 42, by omega⟩ d) := by
  have H := loop_spec _ _ (x 0) (x 1) (hx 0) (hx 1) (slab0 V c t x hb) (slab1 V c t x hb) l hl
  unfold outsAt0
  dsimp only
  frame_out
  canon_tiles y h
  · have hy : y = ix3 (n0 := 1) (n1 := 128) (n2 := 4) 0 l d := by
      rw [eq_ix3 y]; congr 1 <;> apply Fin.ext <;> simp_all
    have hb1 : b = 1 := Fin.ext (by simp at h0; omega)
    subst hb1 hy
    have hp := (pos (x 1) ⟨l.val, hl⟩).isLt
    rw [pay2_eq, pay21_apply]
    refine (onehot_apply _ _ l d ⟨(pos (x 1) ⟨l.val, hl⟩).val / 42, by omega⟩
      ((pay22_apply _ l).trans ((congrArg quot H.2.2.2).trans (quot_eq _ hp)))).trans ?_
    exact View.ld_unit_apply_of (S := S2x304x4) (Val := Elt Ideal) (e := .f32) (iblk0 (F := Ideal) V c 1 t) ![1, 0, 0] ![1, 304, 4]
      inb_S2x304x4_S1x304x4_1_0_0 _ _ (fun a => by fin_cases a <;> simp)
  · have hy : y = ix3 (n0 := 1) (n1 := 128) (n2 := 4) 0 l d := by
      rw [eq_ix3 y]; congr 1 <;> apply Fin.ext <;> simp_all
    have hb1 : b = 0 := Fin.ext (by simp at h0; omega)
    subst hb1 hy
    have hp := (pos (x 0) ⟨l.val, hl⟩).isLt
    rw [pay21_apply]
    refine (onehot_apply _ _ l d ⟨(pos (x 0) ⟨l.val, hl⟩).val / 42, by omega⟩
      ((pay16_apply _ l).trans ((congrArg quot H.2.2.1).trans (quot_eq _ hp)))).trans ?_
    exact View.ld_unit_apply_of (S := S2x304x4) (Val := Elt Ideal) (e := .f32) (iblk0 (F := Ideal) V c 1 t) ![0, 0, 0] ![1, 304, 4]
      inb_S2x304x4_S1x304x4_0_0_0 _ _ (fun a => by fin_cases a <;> simp)

end

section

variable (c : Dev nD)

/-- The call's one grid point. -/
def t0 : Fin cfg0.N := ⟨0, by decide⟩

/-- The only block of the scores starts at the origin. -/
theorem whole0 : ∀ t : Fin cfg0.N, win0_0.index t = ![0, 0, 0] := by decide +kernel
/-- The only block of the reference points starts at the origin. -/
theorem whole1 : ∀ t : Fin cfg0.N, win0_1.index t = ![0, 0, 0] := by decide +kernel

/-- The block of scores read is the whole array. -/
theorem in0 (t) (j : S2x99x128.Idx) : iblk0 (F := Ideal) V c 0 t j = V c main_call0_v8 j := by
  blk_simp [iblk0]
  congr 1
  blk_ext [whole0]

/-- The block of reference points read is the whole array. -/
theorem in1 (t) (j : S2x304x4.Idx) : iblk0 (F := Ideal) V c 1 t j = V c main_call0_v9 j := by
  blk_simp [iblk0]
  congr 1
  blk_ext [whole1]

/-- The array of scores after the call is what its only step stores. -/
theorem arr2 : (dat0 (F := Ideal) V c).arrAt 2 cfg0.N = (outsAt0 (F := Ideal) V c t0).1 :=
  (dat0 (F := Ideal) V c).arrAt_eq_of_after_last 2 t0 (by decide +kernel) _ (fun j => by blk_simp; rw [after0_2])
/-- The array of queries after the call is what its only step stores. -/
theorem arr3 : (dat0 (F := Ideal) V c).arrAt 3 cfg0.N = (outsAt0 (F := Ideal) V c t0).2.1 :=
  (dat0 (F := Ideal) V c).arrAt_eq_of_after_last 3 t0 (by decide +kernel) _ (fun j => by blk_simp; rw [after0_3])
/-- The array of labels after the call is what its only step stores. -/
theorem arr4 : (dat0 (F := Ideal) V c).arrAt 4 cfg0.N = (outsAt0 (F := Ideal) V c t0).2.2.1 :=
  (dat0 (F := Ideal) V c).arrAt_eq_of_after_last 4 t0 (by decide +kernel) _ (fun j => by blk_simp; rw [after0_4])
/-- The array of reference points after the call is what its only step stores. -/
theorem arr5 : (dat0 (F := Ideal) V c).arrAt 5 cfg0.N = (outsAt0 (F := Ideal) V c t0).2.2.2 :=
  (dat0 (F := Ideal) V c).arrAt_eq_of_after_last 5 t0 (by decide +kernel) _ (fun j => by blk_simp; rw [after0_5])

/-- The first call's four arrays at the first hundred lanes, from the scores padded with minus one. -/
theorem arrays (x : Fin 2 → Fin 12600 → EReal) (hx : ∀ b i, 0 ≤ x b i)
    (hb : ∀ (b : Fin 2) (r : Fin 99) (l : Fin 128),
      V c main_call0_v8 (ix3 b r l) = if h : r.val * 128 + l.val < 12600 then x b ⟨_, h⟩ else -1)
    (b : Fin 2) (l : Fin 128) (hl : l.val < 100) :
    (dat0 (F := Ideal) V c).arrAt 2 cfg0.N (ix3 b 0 l) = x b (pos (x b) ⟨l.val, hl⟩)
    ∧ (dat0 (F := Ideal) V c).arrAt 3 cfg0.N (ix3 b 0 l) = BitVec.ofNat 32 ((pos (x b) ⟨l.val, hl⟩).val / 42)
    ∧ (dat0 (F := Ideal) V c).arrAt 4 cfg0.N (ix3 b 0 l) = BitVec.ofNat 32 ((pos (x b) ⟨l.val, hl⟩).val % 42)
    ∧ ∀ d : Fin 4, (dat0 (F := Ideal) V c).arrAt 5 cfg0.N (ix3 b l d)
        = V c main_call0_v9 (ix3 b ⟨(pos (x b) ⟨l.val, hl⟩).val / 42, by omega⟩ d) := by
  have hb' : ∀ (b : Fin 2) (r : Fin 99) (l : Fin 128),
      iblk0 (F := Ideal) V c 0 t0 (ix3 b r l) = if h : r.val * 128 + l.val < 12600 then x b ⟨_, h⟩ else -1 :=
    fun b r l => (in0 V c t0 _).trans (hb b r l)
  rw [arr2, arr3, arr4, arr5]
  exact ⟨scores V c t0 x hx hb' b l hl, boxes V c t0 x hx hb' b l hl, labels V c t0 x hx hb' b l hl,
    fun d => (refs V c t0 x hx hb' b l hl d).trans (in1 V c t0 _)⟩

end
end Cert.Proof.Region0
-- ==== Proof.Region1.lean ====
module

public import proofs.«01_k».proof.Proof.Region0

@[expose] public section

noncomputable section

namespace Cert.Proof.Region1

open Idealize.ShloMosaic Idealize.ShloMosaic.TcCoe Idealize.SL.Sem Cert.KernelIdeal Cert.KernelIdeal.Gen

/-- The value of the second call's one-hot word, from the row's word and the column. -/
theorem near (a b : Nat) (ha : a < 300) (hb : b < 300) :
    FloatOps.sitofp (F := Ideal) FTy.f32 (BitVec.setWidth 32 (FloatOps.cmpf (F := Ideal) .olt
      (FloatOps.absf (F := Ideal) (FloatOps.sitofp (F := Ideal) FTy.f32 (BitVec.ofNat 32 a)
        - FloatOps.sitofp (F := Ideal) FTy.f32 (BitVec.ofNat 32 b) : EReal)) (Ideal.ofBits FTy.f32 1056964608#32)))
      = if a = b then (1 : EReal) else 0 := by
  have hi : ∀ n : Nat, n < 300 → FloatOps.sitofp (F := Ideal) FTy.f32 (BitVec.ofNat 32 n) = ((n : ℝ) : EReal) := by
    intro n hn
    change ((((BitVec.ofNat 32 n).toInt : ℤ) : ℝ) : EReal) = _
    rw [BitVec.toInt_eq_toNat_of_lt (by simp only [BitVec.toNat_ofNat]; omega), BitVec.toNat_ofNat, Nat.mod_eq_of_lt (by omega)]
    norm_cast
  have hhalf : Ideal.ofBits FTy.f32 1056964608#32 = ((1 / 2 : ℝ) : EReal) := by
    simp [Ideal.ofBits, Ideal.ieee, -EReal.coe_mul]; norm_num
  rw [hi a ha, hi b hb, hhalf, ← EReal.coe_sub]
  have habs : FloatOps.absf (F := Ideal) (φ := .f32) (((a : ℝ) - (b : ℝ) : ℝ) : EReal) = ((|(a : ℝ) - b| : ℝ) : EReal) := by
    change max (((a : ℝ) - (b : ℝ) : ℝ) : EReal) (-(((a : ℝ) - (b : ℝ) : ℝ) : EReal)) = _
    rw [← EReal.coe_neg, abs_eq_max_neg]
    exact (EReal.coe_strictMono.monotone.map_max).symm
  rw [habs]
  have hc : FloatOps.cmpf (F := Ideal) (φ := .f32) .olt ((|(a : ℝ) - b| : ℝ) : EReal) ((1 / 2 : ℝ) : EReal)
      = BitVec.ofBool (decide (a = b)) := by
    change BitVec.ofBool (decide (((|(a : ℝ) - b| : ℝ) : EReal) < ((1 / 2 : ℝ) : EReal))) = _
    congr 1
    rw [decide_eq_decide, EReal.coe_lt_coe_iff]
    constructor
    · intro h
      rw [abs_lt] at h
      have h1 : (a : ℝ) < b + 1 := by linarith
      have h2 : (b : ℝ) < a + 1 := by linarith
      have h1' : a < b + 1 := by exact_mod_cast h1
      have h2' : b < a + 1 := by exact_mod_cast h2
      omega
    · rintro rfl
      norm_num
  rw [hc]
  by_cases h : a = b
  · rw [if_pos h, decide_eq_true h]
    change ((((BitVec.setWidth 32 (1#1)).toInt : ℤ) : ℝ) : EReal) = 1
    norm_num
  · rw [if_neg h, decide_eq_false h]
    change ((((BitVec.setWidth 32 (0#1)).toInt : ℤ) : ℝ) : EReal) = 0
    norm_num

/-- The second call's one-hot matrix: row `n` is one at the column its word names and zero elsewhere. -/
theorem pay2_apply (u : Vec Ideal S1x1x128 .i32) (n : Fin 104) (q b : Fin 300)
    (hu : u (ix3 0 0 ⟨n.val, by omega⟩) = BitVec.ofNat 32 b.val) :
    k1_pay2 (F := Ideal) u (ix2 n q) = if q = b then (1 : EReal) else 0 := by
  unfold k1_pay2
  simp only [pointwise]
  have e : List.foldl (fun n_1 a => n_1 * ![104, 300] a + ((ix2 n q : S104x300.Idx) a).val) 0 [1] = q.val := by simp
  have e2 : (⟨![0, 0] 0 + (if h1 : 104 = 1 then (0 : Fin 104) else n).val, by simp; omega⟩ : Fin 128) = ⟨n.val, by omega⟩ := by
    apply Fin.ext; simp
  rw [e]
  refine (congrArg (fun z => FloatOps.sitofp (F := Ideal) FTy.f32 (BitVec.setWidth 32 (FloatOps.cmpf (F := Ideal) .olt
      (FloatOps.absf (F := Ideal) (FloatOps.sitofp (F := Ideal) FTy.f32 (BitVec.ofNat 32 q.val)
        - FloatOps.sitofp (F := Ideal) FTy.f32 z : EReal)) (Ideal.ofBits FTy.f32 1056964608#32))))
    ((congrArg u (congrArg (ix3 0 0) e2)).trans hu)).trans ?_
  rw [near _ _ q.isLt b.isLt]
  by_cases h : q = b
  · rw [if_pos h, if_pos (congrArg Fin.val h)]
  · rw [if_neg h, if_neg (fun h' => h (Fin.ext h'))]

/-- One slab of the gather: the column the row's word names, exactly, when every entry is finite. -/
theorem piece (x0 : Vec Ideal S1x1x128 .i32) (x1 : Vec Ideal S1x1x48x48x300 .f32) (n : Fin 104) (h w : Fin 48) (b : Fin 300)
    (hb : x0 (ix3 0 0 ⟨n.val, by omega⟩) = BitVec.ofNat 32 b.val) (hf : ∀ i, ∃ r : ℝ, x1 i = ((r : ℝ) : EReal))
    (u : Vec Ideal S1x1x1x48x300 .f32) (hu : ∀ k, u (ix5 0 0 0 w k) = x1 (ix5 0 0 h w k))
    (y : S1x104x1x1x48.Idx) (hy : y = ix5 0 n 0 0 w) :
    k1_pay1 (F := Ideal) (k1_pay82 x0 x1) u y = x1 (ix5 0 0 h w b) := by
  subst hy
  unfold k1_pay1
  simp only [pointwise]
  have hp : ∀ k, k1_pay82 (F := Ideal) x0 x1 (ix2 n k) = if k = b then (1 : EReal) else 0 := fun k =>
    pay2_apply (View.ld x0 r1_0) n k b ((View.ld_unit_apply_of (S := S1x1x128) (Val := Elt Ideal) (e := .i32) x0 ![0, 0, 0] _ _ _ _
      (fun a => by fin_cases a <;> simp)).trans hb)
  have h1 : ∀ k, k1_pay82 (F := Ideal) x0 x1 (ix2 n k) * u (ix5 0 0 0 w k) = if k = b then x1 (ix5 0 0 h w k) else 0 := by
    intro k
    rw [hp, hu]
    by_cases e : k = b
    · rw [if_pos e, if_pos e, one_mul]
    · rw [if_neg e, if_neg e, zero_mul]
  have h2 : ∀ k, k1_pay82 (F := Ideal) x0 x1 (ix2 n k) * (u (ix5 0 0 0 w k) - u (ix5 0 0 0 w k)) = (0 : EReal) := by
    intro k
    obtain ⟨r, hr⟩ := hf (ix5 0 0 h w k)
    rw [hu, hr, ← EReal.coe_sub, sub_self, EReal.coe_zero, mul_zero]
  rw [zero_add, zero_add]
  refine (congrArg₂ (· + ·) (Finset.sum_congr rfl fun k _ => h1 k) (Finset.sum_congr rfl fun k _ => h2 k)).trans ?_
  rw [Finset.sum_const_zero, add_zero, Finset.sum_ite_eq' Finset.univ b, if_pos (Finset.mem_univ b)]

set_option maxHeartbeats 4000000 in
/-- The second call's block: row `n` of the block is the slab of the query its word names. -/
theorem block (x0 : Vec Ideal S1x1x128 .i32) (x1 : Vec Ideal S1x1x48x48x300 .f32) (n : Fin 104) (h w : Fin 48) (b : Fin 300)
    (hb : x0 (ix3 0 0 ⟨n.val, by omega⟩) = BitVec.ofNat 32 b.val) (hf : ∀ i, ∃ r : ℝ, x1 i = ((r : ℝ) : EReal)) :
    out1_2 (F := Ideal) x0 x1 (ix5 0 n 0 h w) = x1 (ix5 0 0 h w b) := by
  canon_tiles y h
  · exact piece x0 x1 n h w b hb hf (View.ld x1 r1_95) (fun k => View.ld_unit_apply_of (S := S1x1x48x48x300) (Val := Elt Ideal)
      (e := .f32) x1 ![0, 0, 47, 0, 0] _ _ _ _ (fun a => by fin_cases a <;> simp_all)) y (by
      rw [eq_ix5 y]; congr 1 <;> apply Fin.ext <;> simp_all)
  · exact piece x0 x1 n h w b hb hf (View.ld x1 r1_93) (fun k => View.ld_unit_apply_of (S := S1x1x48x48x300) (Val := Elt Ideal)
      (e := .f32) x1 ![0, 0, 46, 0, 0] _ _ _ _ (fun a => by fin_cases a <;> simp_all)) y (by
      rw [eq_ix5 y]; congr 1 <;> apply Fin.ext <;> simp_all)
  · exact piece x0 x1 n h w b hb hf (View.ld x1 r1_91) (fun k => View.ld_unit_apply_of (S := S1x1x48x48x300) (Val := Elt Ideal)
      (e := .f32) x1 ![0, 0, 45, 0, 0] _ _ _ _ (fun a => by fin_cases a <;> simp_all)) y (by
      rw [eq_ix5 y]; congr 1 <;> apply Fin.ext <;> simp_all)
  · exact piece x0 x1 n h w b hb hf (View.ld x1 r1_89) (fun k => View.ld_unit_apply_of (S := S1x1x48x48x300) (Val := Elt Ideal)
      (e := .f32) x1 ![0, 0, 44, 0, 0] _ _ _ _ (fun a => by fin_cases a <;> simp_all)) y (by
      rw [eq_ix5 y]; congr 1 <;> apply Fin.ext <;> simp_all)
  · exact piece x0 x1 n h w b hb hf (View.ld x1 r1_87) (fun k => View.ld_unit_apply_of (S := S1x1x48x48x300) (Val := Elt Ideal)
      (e := .f32) x1 ![0, 0, 43, 0, 0] _ _ _ _ (fun a => by fin_cases a <;> simp_all)) y (by
      rw [eq_ix5 y]; congr 1 <;> apply Fin.ext <;> simp_all)
  · exact piece x0 x1 n h w b hb hf (View.ld x1 r1_85) (fun k => View.ld_unit_apply_of (S := S1x1x48x48x300) (Val := Elt Ideal)
      (e := .f32) x1 ![0, 0, 42, 0, 0] _ _ _ _ (fun a => by fin_cases a <;> simp_all)) y (by
      rw [eq_ix5 y]; congr 1 <;> apply Fin.ext <;> simp_all)
  · exact piece x0 x1 n h w b hb hf (View.ld x1 r1_83) (fun k => View.ld_unit_apply_of (S := S1x1x48x48x300) (Val := Elt Ideal)
      (e := .f32) x1 ![0, 0, 41, 0, 0] _ _ _ _ (fun a => by fin_cases a <;> simp_all)) y (by
      rw [eq_ix5 y]; congr 1 <;> apply Fin.ext <;> simp_all)
  · exact piece x0 x1 n h w b hb hf (View.ld x1 r1_81) (fun k => View.ld_unit_apply_of (S := S1x1x48x48x300) (Val := Elt Ideal)
      (e := .f32) x1 ![0, 0, 40, 0, 0] _ _ _ _ (fun a => by fin_cases a <;> simp_all)) y (by
      rw [eq_ix5 y]; congr 1 <;> apply Fin.ext <;> simp_all)
  · exact piece x0 x1 n h w b hb hf (View.ld x1 r1_79) (fun k => View.ld_unit_apply_of (S := S1x1x48x48x300) (Val := Elt Ideal)
      (e := .f32) x1 ![0, 0, 39, 0, 0] _ _ _ _ (fun a => by fin_cases a <;> simp_all)) y (by
      rw [eq_ix5 y]; congr 1 <;> apply Fin.ext <;> simp_all)
  · exact piece x0 x1 n h w b hb hf (View.ld x1 r1_77) (fun k => View.ld_unit_apply_of (S := S1x1x48x48x300) (Val := Elt Ideal)
      (e := .f32) x1 ![0, 0, 38, 0, 0] _ _ _ _ (fun a => by fin_cases a <;> simp_all)) y (by
      rw [eq_ix5 y]; congr 1 <;> apply Fin.ext <;> simp_all)
  · exact piece x0 x1 n h w b hb hf (View.ld x1 r1_75) (fun k => View.ld_unit_apply_of (S := S1x1x48x48x300) (Val := Elt Ideal)
      (e := .f32) x1 ![0, 0, 37, 0, 0] _ _ _ _ (fun a => by fin_cases a <;> simp_all)) y (by
      rw [eq_ix5 y]; congr 1 <;> apply Fin.ext <;> simp_all)
  · exact piece x0 x1 n h w b hb hf (View.ld x1 r1_73) (fun k => View.ld_unit_apply_of (S := S1x1x48x48x300) (Val := Elt Ideal)
      (e := .f32) x1 ![0, 0, 36, 0, 0] _ _ _ _ (fun a => by fin_cases a <;> simp_all)) y (by
      rw [eq_ix5 y]; congr 1 <;> apply Fin.ext <;> simp_all)
  · exact piece x0 x1 n h w b hb hf (View.ld x1 r1_71) (fun k => View.ld_unit_apply_of (S := S1x1x48x48x300) (Val := Elt Ideal)
      (e := .f32) x1 ![0, 0, 35, 0, 0] _ _ _ _ (fun a => by fin_cases a <;> simp_all)) y (by
      rw [eq_ix5 y]; congr 1 <;> apply Fin.ext <;> simp_all)
  · exact piece x0 x1 n h w b hb hf (View.ld x1 r1_69) (fun k => View.ld_unit_apply_of (S := S1x1x48x48x300) (Val := Elt Ideal)
      (e := .f32) x1 ![0, 0, 34, 0, 0] _ _ _ _ (fun a => by fin_cases a <;> simp_all)) y (by
      rw [eq_ix5 y]; congr 1 <;> apply Fin.ext <;> simp_all)
  · exact piece x0 x1 n h w b hb hf (View.ld x1 r1_67) (fun k => View.ld_unit_apply_of (S := S1x1x48x48x300) (Val := Elt Ideal)
      (e := .f32) x1 ![0, 0, 33, 0, 0] _ _ _ _ (fun a => by fin_cases a <;> simp_all)) y (by
      rw [eq_ix5 y]; congr 1 <;> apply Fin.ext <;> simp_all)
  · exact piece x0 x1 n h w b hb hf (View.ld x1 r1_65) (fun k => View.ld_unit_apply_of (S := S1x1x48x48x300) (Val := Elt Ideal)
      (e := .f32) x1 ![0, 0, 32, 0, 0] _ _ _ _ (fun a => by fin_cases a <;> simp_all)) y (by
      rw [eq_ix5 y]; congr 1 <;> apply Fin.ext <;> simp_all)
  · exact piece x0 x1 n h w b hb hf (View.ld x1 r1_63) (fun k => View.ld_unit_apply_of (S := S1x1x48x48x300) (Val := Elt Ideal)
      (e := .f32) x1 ![0, 0, 31, 0, 0] _ _ _ _ (fun a => by fin_cases a <;> simp_all)) y (by
      rw [eq_ix5 y]; congr 1 <;> apply Fin.ext <;> simp_all)
  · exact piece x0 x1 n h w b hb hf (View.ld x1 r1_61) (fun k => View.ld_unit_apply_of (S := S1x1x48x48x300) (Val := Elt Ideal)
      (e := .f32) x1 ![0, 0, 30, 0, 0] _ _ _ _ (fun a => by fin_cases a <;> simp_all)) y (by
      rw [eq_ix5 y]; congr 1 <;> apply Fin.ext <;> simp_all)
  · exact piece x0 x1 n h w b hb hf (View.ld x1 r1_59) (fun k => View.ld_unit_apply_of (S := S1x1x48x48x300) (Val := Elt Ideal)
      (e := .f32) x1 ![0, 0, 29, 0, 0] _ _ _ _ (fun a => by fin_cases a <;> simp_all)) y (by
      rw [eq_ix5 y]; congr 1 <;> apply Fin.ext <;> simp_all)
  · exact piece x0 x1 n h w b hb hf (View.ld x1 r1_57) (fun k => View.ld_unit_apply_of (S := S1x1x48x48x300) (Val := Elt Ideal)
      (e := .f32) x1 ![0, 0, 28, 0, 0] _ _ _ _ (fun a => by fin_cases a <;> simp_all)) y (by
      rw [eq_ix5 y]; congr 1 <;> apply Fin.ext <;> simp_all)
  · exact piece x0 x1 n h w b hb hf (View.ld x1 r1_55) (fun k => View.ld_unit_apply_of (S := S1x1x48x48x300) (Val := Elt Ideal)
      (e := .f32) x1 ![0, 0, 27, 0, 0] _ _ _ _ (fun a => by fin_cases a <;> simp_all)) y (by
      rw [eq_ix5 y]; congr 1 <;> apply Fin.ext <;> simp_all)
  · exact piece x0 x1 n h w b hb hf (View.ld x1 r1_53) (fun k => View.ld_unit_apply_of (S := S1x1x48x48x300) (Val := Elt Ideal)
      (e := .f32) x1 ![0, 0, 26, 0, 0] _ _ _ _ (fun a => by fin_cases a <;> simp_all)) y (by
      rw [eq_ix5 y]; congr 1 <;> apply Fin.ext <;> simp_all)
  · exact piece x0 x1 n h w b hb hf (View.ld x1 r1_51) (fun k => View.ld_unit_apply_of (S := S1x1x48x48x300) (Val := Elt Ideal)
      (e := .f32) x1 ![0, 0, 25, 0, 0] _ _ _ _ (fun a => by fin_cases a <;> simp_all)) y (by
      rw [eq_ix5 y]; congr 1 <;> apply Fin.ext <;> simp_all)
  · exact piece x0 x1 n h w b hb hf (View.ld x1 r1_49) (fun k => View.ld_unit_apply_of (S := S1x1x48x48x300) (Val := Elt Ideal)
      (e := .f32) x1 ![0, 0, 24, 0, 0] _ _ _ _ (fun a => by fin_cases a <;> simp_all)) y (by
      rw [eq_ix5 y]; congr 1 <;> apply Fin.ext <;> simp_all)
  · exact piece x0 x1 n h w b hb hf (View.ld x1 r1_47) (fun k => View.ld_unit_apply_of (S := S1x1x48x48x300) (Val := Elt Ideal)
      (e := .f32) x1 ![0, 0, 23, 0, 0] _ _ _ _ (fun a => by fin_cases a <;> simp_all)) y (by
      rw [eq_ix5 y]; congr 1 <;> apply Fin.ext <;> simp_all)
  · exact piece x0 x1 n h w b hb hf (View.ld x1 r1_45) (fun k => View.ld_unit_apply_of (S := S1x1x48x48x300) (Val := Elt Ideal)
      (e := .f32) x1 ![0, 0, 22, 0, 0] _ _ _ _ (fun a => by fin_cases a <;> simp_all)) y (by
      rw [eq_ix5 y]; congr 1 <;> apply Fin.ext <;> simp_all)
  · exact piece x0 x1 n h w b hb hf (View.ld x1 r1_43) (fun k => View.ld_unit_apply_of (S := S1x1x48x48x300) (Val := Elt Ideal)
      (e := .f32) x1 ![0, 0, 21, 0, 0] _ _ _ _ (fun a => by fin_cases a <;> simp_all)) y (by
      rw [eq_ix5 y]; congr 1 <;> apply Fin.ext <;> simp_all)
  · exact piece x0 x1 n h w b hb hf (View.ld x1 r1_41) (fun k => View.ld_unit_apply_of (S := S1x1x48x48x300) (Val := Elt Ideal)
      (e := .f32) x1 ![0, 0, 20, 0, 0] _ _ _ _ (fun a => by fin_cases a <;> simp_all)) y (by
      rw [eq_ix5 y]; congr 1 <;> apply Fin.ext <;> simp_all)
  · exact piece x0 x1 n h w b hb hf (View.ld x1 r1_39) (fun k => View.ld_unit_apply_of (S := S1x1x48x48x300) (Val := Elt Ideal)
      (e := .f32) x1 ![0, 0, 19, 0, 0] _ _ _ _ (fun a => by fin_cases a <;> simp_all)) y (by
      rw [eq_ix5 y]; congr 1 <;> apply Fin.ext <;> simp_all)
  · exact piece x0 x1 n h w b hb hf (View.ld x1 r1_37) (fun k => View.ld_unit_apply_of (S := S1x1x48x48x300) (Val := Elt Ideal)
      (e := .f32) x1 ![0, 0, 18, 0, 0] _ _ _ _ (fun a => by fin_cases a <;> simp_all)) y (by
      rw [eq_ix5 y]; congr 1 <;> apply Fin.ext <;> simp_all)
  · exact piece x0 x1 n h w b hb hf (View.ld x1 r1_35) (fun k => View.ld_unit_apply_of (S := S1x1x48x48x300) (Val := Elt Ideal)
      (e := .f32) x1 ![0, 0, 17, 0, 0] _ _ _ _ (fun a => by fin_cases a <;> simp_all)) y (by
      rw [eq_ix5 y]; congr 1 <;> apply Fin.ext <;> simp_all)
  · exact piece x0 x1 n h w b hb hf (View.ld x1 r1_33) (fun k => View.ld_unit_apply_of (S := S1x1x48x48x300) (Val := Elt Ideal)
      (e := .f32) x1 ![0, 0, 16, 0, 0] _ _ _ _ (fun a => by fin_cases a <;> simp_all)) y (by
      rw [eq_ix5 y]; congr 1 <;> apply Fin.ext <;> simp_all)
  · exact piece x0 x1 n h w b hb hf (View.ld x1 r1_31) (fun k => View.ld_unit_apply_of (S := S1x1x48x48x300) (Val := Elt Ideal)
      (e := .f32) x1 ![0, 0, 15, 0, 0] _ _ _ _ (fun a => by fin_cases a <;> simp_all)) y (by
      rw [eq_ix5 y]; congr 1 <;> apply Fin.ext <;> simp_all)
  · exact piece x0 x1 n h w b hb hf (View.ld x1 r1_29) (fun k => View.ld_unit_apply_of (S := S1x1x48x48x300) (Val := Elt Ideal)
      (e := .f32) x1 ![0, 0, 14, 0, 0] _ _ _ _ (fun a => by fin_cases a <;> simp_all)) y (by
      rw [eq_ix5 y]; congr 1 <;> apply Fin.ext <;> simp_all)
  · exact piece x0 x1 n h w b hb hf (View.ld x1 r1_27) (fun k => View.ld_unit_apply_of (S := S1x1x48x48x300) (Val := Elt Ideal)
      (e := .f32) x1 ![0, 0, 13, 0, 0] _ _ _ _ (fun a => by fin_cases a <;> simp_all)) y (by
      rw [eq_ix5 y]; congr 1 <;> apply Fin.ext <;> simp_all)
  · exact piece x0 x1 n h w b hb hf (View.ld x1 r1_25) (fun k => View.ld_unit_apply_of (S := S1x1x48x48x300) (Val := Elt Ideal)
      (e := .f32) x1 ![0, 0, 12, 0, 0] _ _ _ _ (fun a => by fin_cases a <;> simp_all)) y (by
      rw [eq_ix5 y]; congr 1 <;> apply Fin.ext <;> simp_all)
  · exact piece x0 x1 n h w b hb hf (View.ld x1 r1_23) (fun k => View.ld_unit_apply_of (S := S1x1x48x48x300) (Val := Elt Ideal)
      (e := .f32) x1 ![0, 0, 11, 0, 0] _ _ _ _ (fun a => by fin_cases a <;> simp_all)) y (by
      rw [eq_ix5 y]; congr 1 <;> apply Fin.ext <;> simp_all)
  · exact piece x0 x1 n h w b hb hf (View.ld x1 r1_21) (fun k => View.ld_unit_apply_of (S := S1x1x48x48x300) (Val := Elt Ideal)
      (e := .f32) x1 ![0, 0, 10, 0, 0] _ _ _ _ (fun a => by fin_cases a <;> simp_all)) y (by
      rw [eq_ix5 y]; congr 1 <;> apply Fin.ext <;> simp_all)
  · exact piece x0 x1 n h w b hb hf (View.ld x1 r1_19) (fun k => View.ld_unit_apply_of (S := S1x1x48x48x300) (Val := Elt Ideal)
      (e := .f32) x1 ![0, 0, 9, 0, 0] _ _ _ _ (fun a => by fin_cases a <;> simp_all)) y (by
      rw [eq_ix5 y]; congr 1 <;> apply Fin.ext <;> simp_all)
  · exact piece x0 x1 n h w b hb hf (View.ld x1 r1_17) (fun k => View.ld_unit_apply_of (S := S1x1x48x48x300) (Val := Elt Ideal)
      (e := .f32) x1 ![0, 0, 8, 0, 0] _ _ _ _ (fun a => by fin_cases a <;> simp_all)) y (by
      rw [eq_ix5 y]; congr 1 <;> apply Fin.ext <;> simp_all)
  · exact piece x0 x1 n h w b hb hf (View.ld x1 r1_15) (fun k => View.ld_unit_apply_of (S := S1x1x48x48x300) (Val := Elt Ideal)
      (e := .f32) x1 ![0, 0, 7, 0, 0] _ _ _ _ (fun a => by fin_cases a <;> simp_all)) y (by
      rw [eq_ix5 y]; congr 1 <;> apply Fin.ext <;> simp_all)
  · exact piece x0 x1 n h w b hb hf (View.ld x1 r1_13) (fun k => View.ld_unit_apply_of (S := S1x1x48x48x300) (Val := Elt Ideal)
      (e := .f32) x1 ![0, 0, 6, 0, 0] _ _ _ _ (fun a => by fin_cases a <;> simp_all)) y (by
      rw [eq_ix5 y]; congr 1 <;> apply Fin.ext <;> simp_all)
  · exact piece x0 x1 n h w b hb hf (View.ld x1 r1_11) (fun k => View.ld_unit_apply_of (S := S1x1x48x48x300) (Val := Elt Ideal)
      (e := .f32) x1 ![0, 0, 5, 0, 0] _ _ _ _ (fun a => by fin_cases a <;> simp_all)) y (by
      rw [eq_ix5 y]; congr 1 <;> apply Fin.ext <;> simp_all)
  · exact piece x0 x1 n h w b hb hf (View.ld x1 r1_9) (fun k => View.ld_unit_apply_of (S := S1x1x48x48x300) (Val := Elt Ideal)
      (e := .f32) x1 ![0, 0, 4, 0, 0] _ _ _ _ (fun a => by fin_cases a <;> simp_all)) y (by
      rw [eq_ix5 y]; congr 1 <;> apply Fin.ext <;> simp_all)
  · exact piece x0 x1 n h w b hb hf (View.ld x1 r1_7) (fun k => View.ld_unit_apply_of (S := S1x1x48x48x300) (Val := Elt Ideal)
      (e := .f32) x1 ![0, 0, 3, 0, 0] _ _ _ _ (fun a => by fin_cases a <;> simp_all)) y (by
      rw [eq_ix5 y]; congr 1 <;> apply Fin.ext <;> simp_all)
  · exact piece x0 x1 n h w b hb hf (View.ld x1 r1_5) (fun k => View.ld_unit_apply_of (S := S1x1x48x48x300) (Val := Elt Ideal)
      (e := .f32) x1 ![0, 0, 2, 0, 0] _ _ _ _ (fun a => by fin_cases a <;> simp_all)) y (by
      rw [eq_ix5 y]; congr 1 <;> apply Fin.ext <;> simp_all)
  · exact piece x0 x1 n h w b hb hf (View.ld x1 r1_3) (fun k => View.ld_unit_apply_of (S := S1x1x48x48x300) (Val := Elt Ideal)
      (e := .f32) x1 ![0, 0, 1, 0, 0] _ _ _ _ (fun a => by fin_cases a <;> simp_all)) y (by
      rw [eq_ix5 y]; congr 1 <;> apply Fin.ext <;> simp_all)
  · exact piece x0 x1 n h w b hb hf (View.ld x1 r1_1) (fun k => View.ld_unit_apply_of (S := S1x1x48x48x300) (Val := Elt Ideal)
      (e := .f32) x1 ![0, 0, 0, 0, 0] _ _ _ _ (fun a => by fin_cases a <;> simp_all)) y (by
      rw [eq_ix5 y]; congr 1 <;> apply Fin.ext <;> simp_all)
end Cert.Proof.Region1
-- ==== Proof.Region2.lean ====
module

public import proofs.«01_k».proof.Proof.Region1
public import Idealize.ShloMosaic.Lib.Pointwise.Select

@[expose] public section

noncomputable section

namespace Cert.Proof.Region2

open Idealize.ShloMosaic Idealize.ShloMosaic.TcCoe Idealize.SL.Sem Cert.KernelIdeal Cert.KernelIdeal.Gen

/-- One row of a slab times the column table: `∑ w, u[0,0,r,w] * v[w,j]`. -/
def line (v : FVec Ideal S48x256 .bf16) (u : Vec Ideal S1x1x192x48 .f32) (r : Fin 192) (j : Fin 256) : EReal :=
  ∑ w : Fin 48, (u (ix4 0 0 r w) : EReal) * (v (ix2 w j) : EReal)

/-- A sum of products of reals is a real. -/
theorem sum_real {n : ℕ} (f g : Fin n → EReal) (hf : ∀ i, ∃ r : ℝ, f i = ↑r) (hg : ∀ i, ∃ r : ℝ, g i = ↑r) :
    ∃ r : ℝ, ∑ i, f i * g i = ↑r := by
  choose a ha using hf
  choose b hb using hg
  exact ⟨∑ i, a i * b i, by simp only [ha, hb, ← EReal.coe_mul]; exact (map_sum (⟨⟨Real.toEReal, rfl⟩, EReal.coe_add⟩ : ℝ →+ EReal) _ _).symm⟩

/-- A row of a finite mask interpolated along its width is finite. -/
theorem line_real (v : FVec Ideal S48x256 .bf16) (u : Vec Ideal S1x1x192x48 .f32) (hv : ∀ i, ∃ r : ℝ, v i = ↑r)
    (hu : ∀ i, ∃ r : ℝ, u i = ↑r) (r : Fin 192) (j : Fin 256) : ∃ z : ℝ, line v u r j = ↑z :=
  sum_real _ _ (fun w => hu _) (fun w => hv _)

/-- A real minus itself is zero. -/
theorem sub_self_real {x : EReal} (h : ∃ r : ℝ, x = ↑r) : x - x = 0 := by
  obtain ⟨r, rfl⟩ := h
  rw [← EReal.coe_sub, sub_self, EReal.coe_zero]

/-- The first product with its correction is the row of the slab times the column table. -/
theorem pay82_apply (v3 : FVec Ideal S48x256 .bf16) (u : Vec Ideal S1x1x192x48 .f32) (hu : ∀ i, ∃ r : ℝ, u i = ↑r) (r : Fin 192) (j : Fin 256) :
    k2_pay82 (F := Ideal) v3 u (ix2 r j) = line v3 u r j := by
  unfold k2_pay82
  simp only [pointwise]
  simp only [zero_add]
  have hr := r.isLt
  rw [show ((∑ k : Fin 48, (_ : EReal)) + ∑ k : Fin 48, (_ : EReal)) = line v3 u r j + 0 from
    congrArg₂ _ (Finset.sum_congr rfl fun k _ => by
      rw [dif_pos (show (![0, 0] : Fin 2 → ℕ) 0 + ↑r < 192 by simpa using hr)]
      congr 3 <;> apply Fin.ext <;> simp) (Finset.sum_eq_zero fun k _ => by
      rw [dif_neg (show ¬ (![192, 0] : Fin 2 → ℕ) 0 + ↑r < 192 by simp), sub_self_real (hu _), zero_mul])]
  rw [add_zero]

/-- The leading part of the interpolated rows is the interpolated rows themselves. -/
theorem pay83_apply (v3 : FVec Ideal S48x256 .bf16) (u : Vec Ideal S1x1x192x48 .f32) (hu : ∀ i, ∃ r : ℝ, u i = ↑r) (r : Fin 192) (j : Fin 256) :
    k2_pay83 (F := Ideal) v3 u (ix2 r j) = line v3 u r j := by
  unfold k2_pay83
  simp only [pointwise]
  exact pay82_apply v3 u hu r j

/-- What the leading part leaves over is zero, the rows being finite. -/
theorem pay84_apply (v3 : FVec Ideal S48x256 .bf16) (u : Vec Ideal S1x1x192x48 .f32) (hv : ∀ i, ∃ r : ℝ, v3 i = ↑r) (hu : ∀ i, ∃ r : ℝ, u i = ↑r) (r : Fin 192) (j : Fin 256) :
    k2_pay84 (F := Ideal) v3 u (ix2 r j) = 0 := by
  unfold k2_pay84
  simp only [pointwise]
  refine (congrArg₂ (· - ·) (pay82_apply v3 u hu r j) (pay83_apply v3 u hu r j)).trans ?_
  exact sub_self_real (line_real v3 u hv hu r j)

/-- Whether one result of the two products is positive, as a byte. -/
def bit (v1 : FVec Ideal S256x96 .bf16) (v3 : FVec Ideal S48x256 .bf16) (u : Vec Ideal S1x1x192x48 .f32) (t : Fin 4) (i j : Fin 256) : BitVec 8 :=
  BitVec.setWidth 8 (BitVec.ofBool (decide
    (0 < ∑ h : Fin 48, (v1 (ix2 i ⟨h.val, by omega⟩) : EReal) * line v3 u ⟨t.val * 48 + h.val, by omega⟩ j)))

/-- A sum over 96 terms whose last 48 are zero is the sum of the first 48. -/
theorem sum_half (f : Fin 96 → EReal) (g : Fin 48 → EReal) (h0 : ∀ h : Fin 48, f ⟨h.val, by omega⟩ = g h)
    (h1 : ∀ h : Fin 48, f ⟨48 + h.val, by omega⟩ = 0) : ∑ k, f k = ∑ h, g h := by
  rw [show (∑ k : Fin 96, f k) = ∑ k : Fin (48 + 48), f k from rfl, Fin.sum_univ_add]
  refine (congrArg₂ _ (Finset.sum_congr rfl fun k _ => h0 k) (Finset.sum_eq_zero fun k _ => h1 k)).trans (add_zero _)

/-- The tile computed for frame 3 holds that frame's bits. -/
theorem tile3 (v1 : FVec Ideal S256x96 .bf16) (v3 : FVec Ideal S48x256 .bf16) (u : Vec Ideal S1x1x192x48 .f32) (hv : ∀ i, ∃ r : ℝ, v3 i = ↑r) (hu : ∀ i, ∃ r : ℝ, u i = ↑r) (i j : Fin 256) :
    k2_pay2 (F := Ideal) v1 (k2_pay83 v3 u) (k2_pay84 v3 u) (ix5 0 0 0 i j) = bit v1 v3 u 3 i j := by
  unfold k2_pay2 bit
  simp only [pointwise]
  simp only [zero_add]
  congr 4
  refine sum_half _ _ (fun h => ?_) (fun h => ?_)
  · rw [dif_pos (by simp)]
    refine congrArg₂ _ rfl ((pay83_apply v3 u hu _ _).trans ?_)
    congr 1 <;> apply Fin.ext <;> simp
  · rw [dif_neg (by simp)]
    exact (congrArg _ (pay84_apply v3 u hv hu _ _)).trans (mul_zero _)

/-- The tile computed for frame 2 holds that frame's bits. -/
theorem tile2 (v1 : FVec Ideal S256x96 .bf16) (v3 : FVec Ideal S48x256 .bf16) (u : Vec Ideal S1x1x192x48 .f32) (hv : ∀ i, ∃ r : ℝ, v3 i = ↑r) (hu : ∀ i, ∃ r : ℝ, u i = ↑r) (i j : Fin 256) :
    k2_pay1 (F := Ideal) (k2_pay87 v1 v3 u) (FloatOps.ofBits .f32 0) (ix5 0 0 0 i j) = bit v1 v3 u 2 i j := by
  unfold k2_pay1 k2_pay87 bit
  simp only [pointwise]
  rw [show Ideal.ofBits FTy.f32 0 = 0 from by simp [Ideal.ofBits, Ideal.ieee]]
  simp only [zero_add]
  congr 4
  refine sum_half _ _ (fun h => ?_) (fun h => ?_)
  · rw [dif_pos (by simp)]
    refine congrArg₂ _ rfl ((pay83_apply v3 u hu _ _).trans ?_)
    congr 1 <;> apply Fin.ext <;> simp
  · rw [dif_neg (by simp)]
    exact (congrArg _ (pay84_apply v3 u hv hu _ _)).trans (mul_zero _)

/-- The tile computed for frame 1 holds that frame's bits. -/
theorem tile1 (v1 : FVec Ideal S256x96 .bf16) (v3 : FVec Ideal S48x256 .bf16) (u : Vec Ideal S1x1x192x48 .f32) (hv : ∀ i, ∃ r : ℝ, v3 i = ↑r) (hu : ∀ i, ∃ r : ℝ, u i = ↑r) (i j : Fin 256) :
    k2_pay86 (F := Ideal) v1 v3 u (ix5 0 0 0 i j) = bit v1 v3 u 1 i j := by
  unfold k2_pay86 bit
  simp only [pointwise]
  simp only [zero_add]
  congr 4
  refine sum_half _ _ (fun h => ?_) (fun h => ?_)
  · rw [dif_pos (by simp)]
    refine congrArg₂ _ rfl ((pay83_apply v3 u hu _ _).trans ?_)
    congr 1 <;> apply Fin.ext <;> simp
  · rw [dif_neg (by simp)]
    exact (congrArg _ (pay84_apply v3 u hv hu _ _)).trans (mul_zero _)

/-- The tile computed for frame 0 holds that frame's bits. -/
theorem tile0 (v1 : FVec Ideal S256x96 .bf16) (v3 : FVec Ideal S48x256 .bf16) (u : Vec Ideal S1x1x192x48 .f32) (hv : ∀ i, ∃ r : ℝ, v3 i = ↑r) (hu : ∀ i, ∃ r : ℝ, u i = ↑r) (i j : Fin 256) :
    k2_pay85 (F := Ideal) v1 v3 u (ix5 0 0 0 i j) = bit v1 v3 u 0 i j := by
  unfold k2_pay85 bit
  simp only [pointwise]
  simp only [zero_add]
  congr 4
  refine sum_half _ _ (fun h => ?_) (fun h => ?_)
  · rw [dif_pos (by simp)]
    refine congrArg₂ _ rfl ((pay83_apply v3 u hu _ _).trans ?_)
    congr 1 <;> apply Fin.ext <;> simp
  · rw [dif_neg (by simp)]
    exact (congrArg _ (pay84_apply v3 u hv hu _ _)).trans (mul_zero _)

/-- The row weights are loaded whole. -/
theorem ld1 (x : Vec Ideal S256x96 .bf16) : k2_pay3 (F := Ideal) (View.ld x r2_0) = x := by
  unfold k2_pay3
  funext i
  rw [eq_ix2 i]
  simp only [pointwise]
  refine congrArg x (Eq.trans ?_ (eq_ix2 i).symm)
  congr 1 <;> apply Fin.ext <;> simp

/-- The column weights are loaded whole. -/
theorem ld3 (x : Vec Ideal S48x256 .bf16) : k2_pay4 (F := Ideal) (View.ld x r2_1) = x := by
  unfold k2_pay4
  funext i
  rw [eq_ix2 i]
  simp only [pointwise]
  refine congrArg x (Eq.trans ?_ (eq_ix2 i).symm)
  congr 1 <;> apply Fin.ext <;> simp

/-- The masks of a query are loaded whole. -/
theorem ldu (x : Vec Ideal S1x1x192x48 .f32) : (View.ld x r2_2 : Vec Ideal S1x1x192x48 .f32) = x := by
  funext i
  exact View.ld_unit_apply_of (S := S1x1x192x48) (Val := Elt Ideal) (e := .f32) x ![0, 0, 0, 0] _ _ _ _ (fun a => by fin_cases a <;> simp)

/-- The tile stored for frame 0, from what was loaded, holds that frame's bits. -/
theorem piece0 (x10 : Vec Ideal S256x96 .bf16) (x11 : Vec Ideal S48x256 .bf16) (x : Vec Ideal S1x1x192x48 .f32)
    (hv : ∀ i, ∃ r : ℝ, x11 i = ((r : ℝ) : EReal)) (hu : ∀ i, ∃ r : ℝ, x i = ((r : ℝ) : EReal)) (i j : Fin 256) (y : S1x1x1x256x256.Idx)
    (hy : y = ix5 0 0 0 i j) :
    k2_pay85 (F := Ideal) (k2_pay3 (View.ld x10 r2_0)) (k2_pay4 (View.ld x11 r2_1)) (View.ld x r2_2) y = bit x10 x11 x 0 i j := by
  rw [hy, ld1, ld3, ldu]
  exact tile0 x10 x11 x hv hu i j

/-- The tile stored for frame 1, from what was loaded, holds that frame's bits. -/
theorem piece1 (x10 : Vec Ideal S256x96 .bf16) (x11 : Vec Ideal S48x256 .bf16) (x : Vec Ideal S1x1x192x48 .f32)
    (hv : ∀ i, ∃ r : ℝ, x11 i = ((r : ℝ) : EReal)) (hu : ∀ i, ∃ r : ℝ, x i = ((r : ℝ) : EReal)) (i j : Fin 256) (y : S1x1x1x256x256.Idx)
    (hy : y = ix5 0 0 0 i j) :
    k2_pay86 (F := Ideal) (k2_pay3 (View.ld x10 r2_0)) (k2_pay4 (View.ld x11 r2_1)) (View.ld x r2_2) y = bit x10 x11 x 1 i j := by
  rw [hy, ld1, ld3, ldu]
  exact tile1 x10 x11 x hv hu i j

/-- The tile stored for frame 2, from what was loaded, holds that frame's bits. -/
theorem piece2 (x10 : Vec Ideal S256x96 .bf16) (x11 : Vec Ideal S48x256 .bf16) (x : Vec Ideal S1x1x192x48 .f32)
    (hv : ∀ i, ∃ r : ℝ, x11 i = ((r : ℝ) : EReal)) (hu : ∀ i, ∃ r : ℝ, x i = ((r : ℝ) : EReal)) (i j : Fin 256) (y : S1x1x1x256x256.Idx)
    (hy : y = ix5 0 0 0 i j) :
    k2_pay1 (F := Ideal) (k2_pay87 (k2_pay3 (View.ld x10 r2_0)) (k2_pay4 (View.ld x11 r2_1)) (View.ld x r2_2)) (FloatOps.ofBits .f32 0) y = bit x10 x11 x 2 i j := by
  rw [hy, ld1, ld3, ldu]
  exact tile2 x10 x11 x hv hu i j

/-- The tile stored for frame 3, from what was loaded, holds that frame's bits. -/
theorem piece3 (x10 : Vec Ideal S256x96 .bf16) (x11 : Vec Ideal S48x256 .bf16) (x : Vec Ideal S1x1x192x48 .f32)
    (hv : ∀ i, ∃ r : ℝ, x11 i = ((r : ℝ) : EReal)) (hu : ∀ i, ∃ r : ℝ, x i = ((r : ℝ) : EReal)) (i j : Fin 256) (y : S1x1x1x256x256.Idx)
    (hy : y = ix5 0 0 0 i j) :
    k2_pay2 (F := Ideal) (k2_pay3 (View.ld x10 r2_0)) (k2_pay83 (k2_pay4 (View.ld x11 r2_1)) (View.ld x r2_2)) (k2_pay84 (k2_pay4 (View.ld x11 r2_1)) (View.ld x r2_2)) y = bit x10 x11 x 3 i j := by
  rw [hy, ld1, ld3, ldu]
  exact tile3 x10 x11 x hv hu i j

set_option maxHeartbeats 8000000 in
/-- The third call's block: result `q, t, i, j` is whether the two products of query `q`'s slab, at frame `t`, are positive at `i, j`. -/
theorem block (xs : Fin 10 → Vec Ideal S1x1x192x48 .f32) (x10 : Vec Ideal S256x96 .bf16) (x11 : Vec Ideal S48x256 .bf16)
    (hv : ∀ i, ∃ r : ℝ, x11 i = ((r : ℝ) : EReal)) (hu : ∀ q i, ∃ r : ℝ, xs q i = ((r : ℝ) : EReal)) (q : Fin 10) (t : Fin 4) (i j : Fin 256) :
    out2_12 (F := Ideal) (xs 0) (xs 1) (xs 2) (xs 3) (xs 4) (xs 5) (xs 6) (xs 7) (xs 8) (xs 9) x10 x11 (ix5 0 q t i j)
      = bit x10 x11 (xs q) t i j := by
  canon_tiles y h
  · obtain rfl : q = 9 := Fin.ext (by simp_all)
    obtain rfl : t = 3 := Fin.ext (by simp_all)
    exact piece3 x10 x11 (xs 9) hv (hu 9) i j y (by rw [eq_ix5 y]; congr 1 <;> apply Fin.ext <;> simp_all)
  · obtain rfl : q = 9 := Fin.ext (by simp_all)
    obtain rfl : t = 2 := Fin.ext (by simp_all)
    exact piece2 x10 x11 (xs 9) hv (hu 9) i j y (by rw [eq_ix5 y]; congr 1 <;> apply Fin.ext <;> simp_all)
  · obtain rfl : q = 9 := Fin.ext (by simp_all)
    obtain rfl : t = 1 := Fin.ext (by simp_all)
    exact piece1 x10 x11 (xs 9) hv (hu 9) i j y (by rw [eq_ix5 y]; congr 1 <;> apply Fin.ext <;> simp_all)
  · obtain rfl : q = 9 := Fin.ext (by simp_all)
    obtain rfl : t = 0 := Fin.ext (by simp_all)
    exact piece0 x10 x11 (xs 9) hv (hu 9) i j y (by rw [eq_ix5 y]; congr 1 <;> apply Fin.ext <;> simp_all)
  · obtain rfl : q = 8 := Fin.ext (by simp_all)
    obtain rfl : t = 3 := Fin.ext (by simp_all)
    exact piece3 x10 x11 (xs 8) hv (hu 8) i j y (by rw [eq_ix5 y]; congr 1 <;> apply Fin.ext <;> simp_all)
  · obtain rfl : q = 8 := Fin.ext (by simp_all)
    obtain rfl : t = 2 := Fin.ext (by simp_all)
    exact piece2 x10 x11 (xs 8) hv (hu 8) i j y (by rw [eq_ix5 y]; congr 1 <;> apply Fin.ext <;> simp_all)
  · obtain rfl : q = 8 := Fin.ext (by simp_all)
    obtain rfl : t = 1 := Fin.ext (by simp_all)
    exact piece1 x10 x11 (xs 8) hv (hu 8) i j y (by rw [eq_ix5 y]; congr 1 <;> apply Fin.ext <;> simp_all)
  · obtain rfl : q = 8 := Fin.ext (by simp_all)
    obtain rfl : t = 0 := Fin.ext (by simp_all)
    exact piece0 x10 x11 (xs 8) hv (hu 8) i j y (by rw [eq_ix5 y]; congr 1 <;> apply Fin.ext <;> simp_all)
  · obtain rfl : q = 7 := Fin.ext (by simp_all)
    obtain rfl : t = 3 := Fin.ext (by simp_all)
    exact piece3 x10 x11 (xs 7) hv (hu 7) i j y (by rw [eq_ix5 y]; congr 1 <;> apply Fin.ext <;> simp_all)
  · obtain rfl : q = 7 := Fin.ext (by simp_all)
    obtain rfl : t = 2 := Fin.ext (by simp_all)
    exact piece2 x10 x11 (xs 7) hv (hu 7) i j y (by rw [eq_ix5 y]; congr 1 <;> apply Fin.ext <;> simp_all)
  · obtain rfl : q = 7 := Fin.ext (by simp_all)
    obtain rfl : t = 1 := Fin.ext (by simp_all)
    exact piece1 x10 x11 (xs 7) hv (hu 7) i j y (by rw [eq_ix5 y]; congr 1 <;> apply Fin.ext <;> simp_all)
  · obtain rfl : q = 7 := Fin.ext (by simp_all)
    obtain rfl : t = 0 := Fin.ext (by simp_all)
    exact piece0 x10 x11 (xs 7) hv (hu 7) i j y (by rw [eq_ix5 y]; congr 1 <;> apply Fin.ext <;> simp_all)
  · obtain rfl : q = 6 := Fin.ext (by simp_all)
    obtain rfl : t = 3 := Fin.ext (by simp_all)
    exact piece3 x10 x11 (xs 6) hv (hu 6) i j y (by rw [eq_ix5 y]; congr 1 <;> apply Fin.ext <;> simp_all)
  · obtain rfl : q = 6 := Fin.ext (by simp_all)
    obtain rfl : t = 2 := Fin.ext (by simp_all)
    exact piece2 x10 x11 (xs 6) hv (hu 6) i j y (by rw [eq_ix5 y]; congr 1 <;> apply Fin.ext <;> simp_all)
  · obtain rfl : q = 6 := Fin.ext (by simp_all)
    obtain rfl : t = 1 := Fin.ext (by simp_all)
    exact piece1 x10 x11 (xs 6) hv (hu 6) i j y (by rw [eq_ix5 y]; congr 1 <;> apply Fin.ext <;> simp_all)
  · obtain rfl : q = 6 := Fin.ext (by simp_all)
    obtain rfl : t = 0 := Fin.ext (by simp_all)
    exact piece0 x10 x11 (xs 6) hv (hu 6) i j y (by rw [eq_ix5 y]; congr 1 <;> apply Fin.ext <;> simp_all)
  · obtain rfl : q = 5 := Fin.ext (by simp_all)
    obtain rfl : t = 3 := Fin.ext (by simp_all)
    exact piece3 x10 x11 (xs 5) hv (hu 5) i j y (by rw [eq_ix5 y]; congr 1 <;> apply Fin.ext <;> simp_all)
  · obtain rfl : q = 5 := Fin.ext (by simp_all)
    obtain rfl : t = 2 := Fin.ext (by simp_all)
    exact piece2 x10 x11 (xs 5) hv (hu 5) i j y (by rw [eq_ix5 y]; congr 1 <;> apply Fin.ext <;> simp_all)
  · obtain rfl : q = 5 := Fin.ext (by simp_all)
    obtain rfl : t = 1 := Fin.ext (by simp_all)
    exact piece1 x10 x11 (xs 5) hv (hu 5) i j y (by rw [eq_ix5 y]; congr 1 <;> apply Fin.ext <;> simp_all)
  · obtain rfl : q = 5 := Fin.ext (by simp_all)
    obtain rfl : t = 0 := Fin.ext (by simp_all)
    exact piece0 x10 x11 (xs 5) hv (hu 5) i j y (by rw [eq_ix5 y]; congr 1 <;> apply Fin.ext <;> simp_all)
  · obtain rfl : q = 4 := Fin.ext (by simp_all)
    obtain rfl : t = 3 := Fin.ext (by simp_all)
    exact piece3 x10 x11 (xs 4) hv (hu 4) i j y (by rw [eq_ix5 y]; congr 1 <;> apply Fin.ext <;> simp_all)
  · obtain rfl : q = 4 := Fin.ext (by simp_all)
    obtain rfl : t = 2 := Fin.ext (by simp_all)
    exact piece2 x10 x11 (xs 4) hv (hu 4) i j y (by rw [eq_ix5 y]; congr 1 <;> apply Fin.ext <;> simp_all)
  · obtain rfl : q = 4 := Fin.ext (by simp_all)
    obtain rfl : t = 1 := Fin.ext (by simp_all)
    exact piece1 x10 x11 (xs 4) hv (hu 4) i j y (by rw [eq_ix5 y]; congr 1 <;> apply Fin.ext <;> simp_all)
  · obtain rfl : q = 4 := Fin.ext (by simp_all)
    obtain rfl : t = 0 := Fin.ext (by simp_all)
    exact piece0 x10 x11 (xs 4) hv (hu 4) i j y (by rw [eq_ix5 y]; congr 1 <;> apply Fin.ext <;> simp_all)
  · obtain rfl : q = 3 := Fin.ext (by simp_all)
    obtain rfl : t = 3 := Fin.ext (by simp_all)
    exact piece3 x10 x11 (xs 3) hv (hu 3) i j y (by rw [eq_ix5 y]; congr 1 <;> apply Fin.ext <;> simp_all)
  · obtain rfl : q = 3 := Fin.ext (by simp_all)
    obtain rfl : t = 2 := Fin.ext (by simp_all)
    exact piece2 x10 x11 (xs 3) hv (hu 3) i j y (by rw [eq_ix5 y]; congr 1 <;> apply Fin.ext <;> simp_all)
  · obtain rfl : q = 3 := Fin.ext (by simp_all)
    obtain rfl : t = 1 := Fin.ext (by simp_all)
    exact piece1 x10 x11 (xs 3) hv (hu 3) i j y (by rw [eq_ix5 y]; congr 1 <;> apply Fin.ext <;> simp_all)
  · obtain rfl : q = 3 := Fin.ext (by simp_all)
    obtain rfl : t = 0 := Fin.ext (by simp_all)
    exact piece0 x10 x11 (xs 3) hv (hu 3) i j y (by rw [eq_ix5 y]; congr 1 <;> apply Fin.ext <;> simp_all)
  · obtain rfl : q = 2 := Fin.ext (by simp_all)
    obtain rfl : t = 3 := Fin.ext (by simp_all)
    exact piece3 x10 x11 (xs 2) hv (hu 2) i j y (by rw [eq_ix5 y]; congr 1 <;> apply Fin.ext <;> simp_all)
  · obtain rfl : q = 2 := Fin.ext (by simp_all)
    obtain rfl : t = 2 := Fin.ext (by simp_all)
    exact piece2 x10 x11 (xs 2) hv (hu 2) i j y (by rw [eq_ix5 y]; congr 1 <;> apply Fin.ext <;> simp_all)
  · obtain rfl : q = 2 := Fin.ext (by simp_all)
    obtain rfl : t = 1 := Fin.ext (by simp_all)
    exact piece1 x10 x11 (xs 2) hv (hu 2) i j y (by rw [eq_ix5 y]; congr 1 <;> apply Fin.ext <;> simp_all)
  · obtain rfl : q = 2 := Fin.ext (by simp_all)
    obtain rfl : t = 0 := Fin.ext (by simp_all)
    exact piece0 x10 x11 (xs 2) hv (hu 2) i j y (by rw [eq_ix5 y]; congr 1 <;> apply Fin.ext <;> simp_all)
  · obtain rfl : q = 1 := Fin.ext (by simp_all)
    obtain rfl : t = 3 := Fin.ext (by simp_all)
    exact piece3 x10 x11 (xs 1) hv (hu 1) i j y (by rw [eq_ix5 y]; congr 1 <;> apply Fin.ext <;> simp_all)
  · obtain rfl : q = 1 := Fin.ext (by simp_all)
    obtain rfl : t = 2 := Fin.ext (by simp_all)
    exact piece2 x10 x11 (xs 1) hv (hu 1) i j y (by rw [eq_ix5 y]; congr 1 <;> apply Fin.ext <;> simp_all)
  · obtain rfl : q = 1 := Fin.ext (by simp_all)
    obtain rfl : t = 1 := Fin.ext (by simp_all)
    exact piece1 x10 x11 (xs 1) hv (hu 1) i j y (by rw [eq_ix5 y]; congr 1 <;> apply Fin.ext <;> simp_all)
  · obtain rfl : q = 1 := Fin.ext (by simp_all)
    obtain rfl : t = 0 := Fin.ext (by simp_all)
    exact piece0 x10 x11 (xs 1) hv (hu 1) i j y (by rw [eq_ix5 y]; congr 1 <;> apply Fin.ext <;> simp_all)
  · obtain rfl : q = 0 := Fin.ext (by simp_all)
    obtain rfl : t = 3 := Fin.ext (by simp_all)
    exact piece3 x10 x11 (xs 0) hv (hu 0) i j y (by rw [eq_ix5 y]; congr 1 <;> apply Fin.ext <;> simp_all)
  · obtain rfl : q = 0 := Fin.ext (by simp_all)
    obtain rfl : t = 2 := Fin.ext (by simp_all)
    exact piece2 x10 x11 (xs 0) hv (hu 0) i j y (by rw [eq_ix5 y]; congr 1 <;> apply Fin.ext <;> simp_all)
  · obtain rfl : q = 0 := Fin.ext (by simp_all)
    obtain rfl : t = 1 := Fin.ext (by simp_all)
    exact piece1 x10 x11 (xs 0) hv (hu 0) i j y (by rw [eq_ix5 y]; congr 1 <;> apply Fin.ext <;> simp_all)
  · obtain rfl : q = 0 := Fin.ext (by simp_all)
    obtain rfl : t = 0 := Fin.ext (by simp_all)
    exact piece0 x10 x11 (xs 0) hv (hu 0) i j y (by rw [eq_ix5 y]; congr 1 <;> apply Fin.ext <;> simp_all)

end Cert.Proof.Region2
-- ==== Proof.Arrays1.lean ====
module

public import proofs.«01_k».proof.Proof.Region1

@[expose] public section

noncomputable section

namespace Cert.Proof.Arrays

open Idealize.ShloMosaic Idealize.ShloMosaic.TcCoe Idealize.SL.Sem Idealize.ShloMosaic.Pipeline Cert.KernelIdeal Cert.KernelIdeal.Gen

variable (V : (c : Dev nD) → (b : Ref sig .tc) → Buf (Elt Ideal) ((c : Thread nD τ).loc b)) (c : Dev nD)

/-- The block of queries read at a step is its image's. -/
theorem i10 : ∀ t : Fin cfg1.N, win1_0.index t = ![(grid1.coords t 0).val, 0, 0] := by decide +kernel
/-- The block of masks read at a step is its image's and its frame's. -/
theorem i11 : ∀ t : Fin cfg1.N, win1_1.index t = ![(grid1.coords t 0).val, (grid1.coords t 1).val, 0, 0, 0] := by decide +kernel
/-- The block of masks stored at a step is its image's and its frame's. -/
theorem i12 : ∀ t : Fin cfg1.N, win1_2.index t = ![(grid1.coords t 0).val, 0, (grid1.coords t 1).val, 0, 0] := by decide +kernel

set_option maxHeartbeats 2000000 in
/-- The gathered masks: row `n` of batch `b` at frame `t` is the mask of the query whose number the row's word holds. -/
theorem gathered (hf : ∀ i, ∃ r : ℝ, (V c main_call0_v16 : Vec Ideal S2x4x48x48x300 .f32) i = ((r : ℝ) : EReal))
    (b : Fin 2) (n : Fin 104) (t : Fin 4) (h w : Fin 48) (k : Fin 300)
    (hk : (V c main_call0_v10_1 : Vec Ideal S2x1x128 .i32) (ix3 b 0 ⟨n.val, by omega⟩) = BitVec.ofNat 32 k.val) :
    (dat1 (F := Ideal) V c).arrAt 2 cfg1.N (ix5 b n t h w) = (V c main_call0_v16 : Vec Ideal S2x4x48x48x300 .f32) (ix5 b t h w k) := by
  have key : ∀ k : Fin 300, (V c main_call0_v10_1 : Vec Ideal S2x1x128 .i32) (ix3 b 0 ⟨n.val, by omega⟩) = BitVec.ofNat 32 k.val →
      (dat1 (F := Ideal) V c).arrAt 2 cfg1.N (ix5 b n t h w) = (V c main_call0_v16 : Vec Ideal S2x4x48x48x300 .f32) (ix5 b t h w k) := by
    refine (dat1 (F := Ideal) V c).arrAt_forall_of_covers 2 (fun (i : S2x104x4x48x48.Idx) (v : EReal) => ∀ k : Fin 300,
      (V c main_call0_v10_1 : Vec Ideal S2x1x128 .i32) (ix3 (i 0) 0 ⟨(i 1).val, lt_trans (i 1).isLt (by decide)⟩) = BitVec.ofNat 32 k.val →
      v = (V c main_call0_v16 : Vec Ideal S2x4x48x48x300 .f32) (ix5 (i 0) (i 2) (i 3) (i 4) k)) (by decide +kernel) (fun t hf' y => ?_) (ix5 b n t h w)
    intro k hk
    blk_simp
    rw [after1_2]
    have hy : y = ix5 (n0 := 1) (n1 := 104) (n2 := 1) (n3 := 48) (n4 := 48) 0 (y 1) 0 (y 3) (y 4) := by
      refine (eq_ix5 (n0 := 1) (n1 := 104) (n2 := 1) (n3 := 48) (n4 := 48) y).trans ?_
      congr 1 <;> exact Subsingleton.elim (α := Fin 1) _ _
    rw [hy]
    refine (Region1.block (iblk1 V c 0 t) (iblk1 V c 1 t) (y 1) (y 3) (y 4) k ?_ ?_).trans ?_
    · refine Eq.trans ?_ hk
      blk_simp [iblk1]
      congr 1
      blk_ext [i10, i12]
    · intro i
      blk_simp [iblk1]
      exact hf _
    · blk_simp [iblk1]
      congr 1
      blk_ext [i11, i12]
  exact key k hk

end Cert.Proof.Arrays
-- ==== Proof.Arrays2.lean ====
module

public import proofs.«01_k».proof.Proof.Region2
public import proofs.«01_k».proof.Proof.Arrays1

@[expose] public section

noncomputable section

namespace Cert.Proof.Arrays

open Idealize.ShloMosaic Idealize.ShloMosaic.TcCoe Idealize.SL.Sem Idealize.ShloMosaic.Pipeline Cert.KernelIdeal Cert.KernelIdeal.Gen

variable (V : (c : Dev nD) → (b : Ref sig .tc) → Buf (Elt Ideal) ((c : Thread nD τ).loc b)) (c : Dev nD)

/-- The first grid coordinate is an image, below 2. -/
theorem b0 : ∀ t : Fin cfg2.N, (grid2.coords t 0).val < 2 := by decide +kernel
/-- The second grid coordinate is a group of ten queries, below 10. -/
theorem b1 : ∀ t : Fin cfg2.N, (grid2.coords t 1).val < 10 := by decide +kernel
/-- The block read for query 0 of a group. -/
theorem i20 : ∀ t : Fin cfg2.N, win2_0.index t = ![(grid2.coords t 0).val, 10 * (grid2.coords t 1).val + 0, 0, 0] := by decide +kernel
/-- The block read for query 1 of a group. -/
theorem i21 : ∀ t : Fin cfg2.N, win2_1.index t = ![(grid2.coords t 0).val, 10 * (grid2.coords t 1).val + 1, 0, 0] := by decide +kernel
/-- The block read for query 2 of a group. -/
theorem i22 : ∀ t : Fin cfg2.N, win2_2.index t = ![(grid2.coords t 0).val, 10 * (grid2.coords t 1).val + 2, 0, 0] := by decide +kernel
/-- The block read for query 3 of a group. -/
theorem i23 : ∀ t : Fin cfg2.N, win2_3.index t = ![(grid2.coords t 0).val, 10 * (grid2.coords t 1).val + 3, 0, 0] := by decide +kernel
/-- The block read for query 4 of a group. -/
theorem i24 : ∀ t : Fin cfg2.N, win2_4.index t = ![(grid2.coords t 0).val, 10 * (grid2.coords t 1).val + 4, 0, 0] := by decide +kernel
/-- The block read for query 5 of a group. -/
theorem i25 : ∀ t : Fin cfg2.N, win2_5.index t = ![(grid2.coords t 0).val, 10 * (grid2.coords t 1).val + 5, 0, 0] := by decide +kernel
/-- The block read for query 6 of a group. -/
theorem i26 : ∀ t : Fin cfg2.N, win2_6.index t = ![(grid2.coords t 0).val, 10 * (grid2.coords t 1).val + 6, 0, 0] := by decide +kernel
/-- The block read for query 7 of a group. -/
theorem i27 : ∀ t : Fin cfg2.N, win2_7.index t = ![(grid2.coords t 0).val, 10 * (grid2.coords t 1).val + 7, 0, 0] := by decide +kernel
/-- The block read for query 8 of a group. -/
theorem i28 : ∀ t : Fin cfg2.N, win2_8.index t = ![(grid2.coords t 0).val, 10 * (grid2.coords t 1).val + 8, 0, 0] := by decide +kernel
/-- The block read for query 9 of a group. -/
theorem i29 : ∀ t : Fin cfg2.N, win2_9.index t = ![(grid2.coords t 0).val, 10 * (grid2.coords t 1).val + 9, 0, 0] := by decide +kernel
/-- The block of row weights starts at the origin. -/
theorem i2x : ∀ t : Fin cfg2.N, win2_10.index t = ![0, 0] := by decide +kernel
/-- The block of column weights starts at the origin. -/
theorem i2y : ∀ t : Fin cfg2.N, win2_11.index t = ![0, 0] := by decide +kernel
/-- The block stored at a step is its image's and its group's. -/
theorem i2z : ∀ t : Fin cfg2.N, win2_12.index t = ![(grid2.coords t 0).val, (grid2.coords t 1).val, 0, 0, 0] := by decide +kernel

/-- Row `n` of batch `b` of the gathered masks, as one slab. -/
def slab (g : Vec Ideal S2x104x192x48 .f32) (b : Fin 2) (n : Fin 104) : Vec Ideal S1x1x192x48 .f32 :=
  fun y => g (ix4 b n (y 2) (y 3))

/-- The slab of query `q` of the block at a grid point. -/
def slabAt (t : Fin cfg2.N) (q : Fin 10) : Vec Ideal S1x1x192x48 .f32 :=
  slab (V c main_call0_v18) ⟨(grid2.coords t 0).val, b0 t⟩ ⟨10 * (grid2.coords t 1).val + q.val, by have := b1 t; omega⟩

/-- What is read for query 0 of a group is that query's masks. -/
theorem e20 (t : Fin cfg2.N) : (iblk2 (F := Ideal) V c 0 t : Vec Ideal S1x1x192x48 .f32) = slabAt V c t 0 := by
  funext y
  unfold slabAt slab
  blk_simp [iblk2]
  congr 1
  blk_ext [i20]

/-- What is read for query 1 of a group is that query's masks. -/
theorem e21 (t : Fin cfg2.N) : (iblk2 (F := Ideal) V c 1 t : Vec Ideal S1x1x192x48 .f32) = slabAt V c t 1 := by
  funext y
  unfold slabAt slab
  blk_simp [iblk2]
  congr 1
  blk_ext [i21]

/-- What is read for query 2 of a group is that query's masks. -/
theorem e22 (t : Fin cfg2.N) : (iblk2 (F := Ideal) V c 2 t : Vec Ideal S1x1x192x48 .f32) = slabAt V c t 2 := by
  funext y
  unfold slabAt slab
  blk_simp [iblk2]
  congr 1
  blk_ext [i22]

/-- What is read for query 3 of a group is that query's masks. -/
theorem e23 (t : Fin cfg2.N) : (iblk2 (F := Ideal) V c 3 t : Vec Ideal S1x1x192x48 .f32) = slabAt V c t 3 := by
  funext y
  unfold slabAt slab
  blk_simp [iblk2]
  congr 1
  blk_ext [i23]

/-- What is read for query 4 of a group is that query's masks. -/
theorem e24 (t : Fin cfg2.N) : (iblk2 (F := Ideal) V c 4 t : Vec Ideal S1x1x192x48 .f32) = slabAt V c t 4 := by
  funext y
  unfold slabAt slab
  blk_simp [iblk2]
  congr 1
  blk_ext [i24]

/-- What is read for query 5 of a group is that query's masks. -/
theorem e25 (t : Fin cfg2.N) : (iblk2 (F := Ideal) V c 5 t : Vec Ideal S1x1x192x48 .f32) = slabAt V c t 5 := by
  funext y
  unfold slabAt slab
  blk_simp [iblk2]
  congr 1
  blk_ext [i25]

/-- What is read for query 6 of a group is that query's masks. -/
theorem e26 (t : Fin cfg2.N) : (iblk2 (F := Ideal) V c 6 t : Vec Ideal S1x1x192x48 .f32) = slabAt V c t 6 := by
  funext y
  unfold slabAt slab
  blk_simp [iblk2]
  congr 1
  blk_ext [i26]

/-- What is read for query 7 of a group is that query's masks. -/
theorem e27 (t : Fin cfg2.N) : (iblk2 (F := Ideal) V c 7 t : Vec Ideal S1x1x192x48 .f32) = slabAt V c t 7 := by
  funext y
  unfold slabAt slab
  blk_simp [iblk2]
  congr 1
  blk_ext [i27]

/-- What is read for query 8 of a group is that query's masks. -/
theorem e28 (t : Fin cfg2.N) : (iblk2 (F := Ideal) V c 8 t : Vec Ideal S1x1x192x48 .f32) = slabAt V c t 8 := by
  funext y
  unfold slabAt slab
  blk_simp [iblk2]
  congr 1
  blk_ext [i28]

/-- What is read for query 9 of a group is that query's masks. -/
theorem e29 (t : Fin cfg2.N) : (iblk2 (F := Ideal) V c 9 t : Vec Ideal S1x1x192x48 .f32) = slabAt V c t 9 := by
  funext y
  unfold slabAt slab
  blk_simp [iblk2]
  congr 1
  blk_ext [i29]

/-- The row weights read are the whole table. -/
theorem e2x (t : Fin cfg2.N) : (iblk2 (F := Ideal) V c 10 t : Vec Ideal S256x96 .bf16) = V c main_call0_v20 := by
  funext y
  blk_simp [iblk2]
  congr 1
  blk_ext [i2x]

/-- The column weights read are the whole table. -/
theorem e2y (t : Fin cfg2.N) : (iblk2 (F := Ideal) V c 11 t : Vec Ideal S48x256 .bf16) = V c main_call0_v21 := by
  funext y
  blk_simp [iblk2]
  congr 1
  blk_ext [i2y]

set_option maxHeartbeats 2000000 in
/-- The mask results: query `n` of batch `b` at frame `t`, row `i`, column `j` is whether the two products of its slab are positive there. -/
theorem masks (hv : ∀ i, ∃ r : ℝ, (V c main_call0_v21 : Vec Ideal S48x256 .bf16) i = ((r : ℝ) : EReal))
    (hu : ∀ (b : Fin 2) (n : Fin 100) r w, ∃ z : ℝ, (V c main_call0_v18 : Vec Ideal S2x104x192x48 .f32) (ix4 b ⟨n.val, by omega⟩ r w) = ((z : ℝ) : EReal))
    (b : Fin 2) (n : Fin 100) (t : Fin 4) (i j : Fin 256) :
    (dat2 (F := Ideal) V c).arrAt 12 cfg2.N (ix5 b n t i j)
      = Region2.bit (V c main_call0_v20) (V c main_call0_v21) (slab (V c main_call0_v18) b ⟨n.val, by omega⟩) t i j := by
  refine (dat2 (F := Ideal) V c).arrAt_forall_of_covers 12 (fun (i : S2x100x4x256x256.Idx) (v : BitVec 8) =>
    v = Region2.bit (V c main_call0_v20) (V c main_call0_v21) (slab (V c main_call0_v18) (i 0) ⟨(i 1).val, lt_trans (i 1).isLt (by decide)⟩) (i 2) (i 3) (i 4))
    (by decide +kernel) (fun t hf' y => ?_) (ix5 b n t i j)
  blk_simp
  rw [after2_12]
  have hy : y = ix5 (n0 := 1) (n1 := 10) (n2 := 4) (n3 := 256) (n4 := 256) 0 (y 1) (y 2) (y 3) (y 4) := by
    refine (eq_ix5 (n0 := 1) (n1 := 10) (n2 := 4) (n3 := 256) (n4 := 256) y).trans ?_
    congr 1 <;> exact Subsingleton.elim (α := Fin 1) _ _
  rw [hy, e20, e21, e22, e23, e24, e25, e26, e27, e28, e29, e2x, e2y]
  refine (Region2.block (slabAt V c t) (V c main_call0_v20) (V c main_call0_v21) hv (fun q i => ?_) (y 1) (y 2) (y 3) (y 4)).trans ?_
  · exact hu ⟨(grid2.coords t 0).val, b0 t⟩ ⟨10 * (grid2.coords t 1).val + q.val, by have := b1 t; omega⟩ _ _
  · unfold slabAt
    congr 1
    · congr 1
      · apply Fin.ext
        blk_simp [i2z]
        simp
      · apply Fin.ext
        blk_simp [i2z]
        simp
        omega
    · apply Fin.ext; blk_simp [i2z]
    · apply Fin.ext; blk_simp [i2z]
    · apply Fin.ext; blk_simp [i2z]

end Cert.Proof.Arrays
-- ==== Proof.Tables.lean ====
module

public import proofs.«01_k».proof.Proof.Gen.KernelIdeal.Frame

@[expose] public section

noncomputable section

namespace Cert.Proof.Tables

open Idealize.ShloMosaic Cert.KernelIdeal

/-- Eight times the weight of input pixel `h` of 48 in output pixel `r` of 192. -/
def wt (r h : ℕ) : ℕ :=
  if r ≤ 1 then (if h = 0 then 8 else 0)
  else if 190 ≤ r then (if h = 47 then 8 else 0)
  else 8 - ((2 * r - (3 + 8 * h)) + (3 + 8 * h - 2 * r))

/-- The word of `n` eighths. -/
def word : ℕ → BitVec 32
  | 0 => 0x00000000#32
  | 1 => 0x3E000000#32
  | 3 => 0x3EC00000#32
  | 5 => 0x3F200000#32
  | 7 => 0x3F600000#32
  | _ => 0x3F800000#32

/-- The row of the 192 that row `i` of the 256 reads. -/
def row (i : ℕ) : ℕ := (2 * i + 1) * 180 / 512

/-- The column of the 192 that column `j` of the 256 reads. -/
def col (j : ℕ) : ℕ := (2 * j + 1) * 192 / 512

/-- The table of row weights, entry by entry. -/
theorem lit0_eq : ∀ i : Fin 256, ∀ h : Fin 48, lit0t (i.val * 48 + h.val) = word (wt (row i.val) h.val) := by decide +kernel

/-- The table of column weights, entry by entry. -/
theorem lit1_eq : ∀ w : Fin 48, ∀ j : Fin 256, lit1t (w.val * 256 + j.val) = word (wt (col j.val) w.val) := by decide +kernel

end Cert.Proof.Tables
-- ==== Proof.Spec.lean ====
module

public import proofs.«01_k».proof.Proof.Region0
public import proofs.«01_k».proof.Proof.Tables

@[expose] public section

noncomputable section

namespace Cert.Proof.Spec

open Idealize.ShloMosaic Cert.KernelIdeal

/-- The logistic function as the programs spell it. -/
def sg (x : EReal) : EReal := Ideal.div 1 (1 + Ideal.exp (-x))

/-- It is at least zero. -/
theorem sg_nonneg (x : EReal) : 0 ≤ sg x := by
  unfold sg Ideal.div
  have h : (0 : EReal) ≤ Ideal.exp (-x) := by
    induction -x using EReal.rec with
    | bot => exact le_refl (0 : EReal)
    | top => exact (le_top : (0 : EReal) ≤ ⊤)
    | coe r => exact EReal.coe_nonneg.mpr (Real.exp_nonneg r)
  have h1 : (0 : EReal) < 1 + Ideal.exp (-x) := lt_of_lt_of_le zero_lt_one (le_add_of_nonneg_right h)
  rw [if_neg h1.ne']
  exact mul_nonneg zero_le_one (EReal.inv_nonneg_of_nonneg h1.le)

/-- The score of batch `b` at flat position `n` (query `n / 42`, class `n % 42`). -/
def score (a0 : Vec Ideal S2x300x42 .f32) (b : Fin 2) (n : Fin 12600) : EReal :=
  sg (a0 (ix3 b ⟨n.val / 42, by omega⟩ ⟨n.val % 42, by omega⟩))

/-- The flat position that comes `k`th when the scores of batch `b` are sorted from the greatest, ties by position. -/
def pos (a0 : Vec Ideal S2x300x42 .f32) (b : Fin 2) (k : Fin 100) : Fin 12600 := Region0.pos (score a0 b) k

/-- The query of that position. -/
def query (a0 : Vec Ideal S2x300x42 .f32) (b : Fin 2) (k : Fin 100) : Fin 300 := ⟨(pos a0 b k).val / 42, by omega⟩

/-- The weight of input pixel `h` of 48 in output pixel `r` of 192. -/
def weight (r h : ℕ) : EReal := (((Tables.wt r h : ℝ) / 8 : ℝ) : EReal)

/-- The word of a weight is that weight. -/
theorem word_weight (r h : ℕ) : Ideal.ofBits .f32 (Tables.word (Tables.wt r h)) = weight r h := by
  have h8 : Tables.wt r h = 0 ∨ Tables.wt r h = 1 ∨ Tables.wt r h = 3 ∨ Tables.wt r h = 5 ∨ Tables.wt r h = 7 ∨ Tables.wt r h = 8 := by
    unfold Tables.wt; split_ifs <;> omega
  unfold weight
  rcases h8 with h8 | h8 | h8 | h8 | h8 | h8 <;> rw [h8] <;> simp only [Tables.word] <;>
    simp [Ideal.ofBits, Ideal.ieee, -EReal.coe_mul] <;> norm_num

/-- The mask byte of query `q` of batch `b` at frame `t`, row `i`, column `j`: whether the interpolated mask is positive there. -/
def mask (a1 : Vec Ideal S2x300x4x48x48 .f32) (b : Fin 2) (q : Fin 300) (t : Fin 4) (i j : Fin 256) : BitVec 8 :=
  BitVec.setWidth 8 (BitVec.ofBool (decide (0 < ∑ h : Fin 48, weight (Tables.row i.val) h.val *
    ∑ w : Fin 48, (a1 (ix5 b q t h w) : EReal) * weight (Tables.col j.val) w.val)))

end Cert.Proof.Spec
-- ==== Proof.KernelValues.lean ====
module

public import proofs.«01_k».proof.Proof.Arrays2
public import proofs.«01_k».proof.Proof.Spec
public import Idealize.ShloMosaic.Lib.Pointwise.Select

@[expose] public section

noncomputable section

namespace Cert.Proof.KernelValues

open Idealize.ShloMosaic Idealize.ShloMosaic.TcCoe Idealize.SL.Sem Idealize.ShloMosaic.StableHlo Cert.KernelIdeal Cert.KernelIdeal.Gen Cert.Proof.Spec

variable (m : (ℓ : Loc nD τ sig) → Buf (Elt Ideal) ℓ) (ρ : Dev nD → PrngReg) (c : Dev nD)

/-- The class logits at launch. -/
abbrev a0 : Vec Ideal S2x300x42 .f32 := m ((c : Thread nD τ).loc main_arg0)
/-- The masks at launch. -/
abbrev a1 : Vec Ideal S2x300x4x48x48 .f32 := m ((c : Thread nD τ).loc main_arg1)
/-- The reference points at launch. -/
abbrev a2 : Vec Ideal S2x300x4 .f32 := m ((c : Thread nD τ).loc main_arg2)

/-- The first call reads the scores, laid out in 99 rows of 128 and padded with minus one. -/
theorem V1_v8 (b : Fin 2) (r : Fin 99) (l : Fin 128) : (V1 m ρ c main_call0_v8 : Vec Ideal S2x99x128 .f32) (ix3 b r l)
    = if h : r.val * 128 + l.val < 12600 then score (a0 m c) b ⟨_, h⟩ else -1 := by
  change StableHlo.after hostOps0 (W0 m ρ c) (Proc.devRef .tc main_call0_v8) (ix3 b r l) = _
  simp only [hostOps0, TRef.binary, TRef.nullary, TRef.ternary, TRef.unary, TRef.reshape, TRef.toBuf, TRef.ofBuf, cast_eq]
  after_results_simp
  rw [show W0 m ρ c (Proc.devRef .tc main_arg0) = a0 m c from rfl]
  simp only [pointwise]
  have hl := l.isLt
  have hr := r.isLt
  split_ifs with h1 h2 h2
  · refine congrArg (fun z => Ideal.div 1 (1 + Ideal.exp (-(a0 m c z : EReal)))) ?_
    congr 1 <;> apply Fin.ext <;> simp
  · exact absurd (h1 1).2.2 (by simp [ix2]; omega)
  · exact absurd (fun a => by fin_cases a <;> simp [ix2] <;> omega) h1
  · change Ideal.ofBits FTy.f32 3212836864#32 = -1
    simp [Ideal.ofBits, Ideal.ieee, -EReal.coe_mul]
    norm_num

/-- The first call reads the reference points, padded to 304 rows. -/
theorem V1_v9 (b : Fin 2) (k : Fin 300) (d : Fin 4) : (V1 m ρ c main_call0_v9 : Vec Ideal S2x304x4 .f32) (ix3 b ⟨k.val, by omega⟩ d)
    = a2 m c (ix3 b k d) := by
  change StableHlo.after hostOps0 (W0 m ρ c) (Proc.devRef .tc main_call0_v9) (ix3 b ⟨k.val, by omega⟩ d) = _
  simp only [hostOps0, TRef.binary, TRef.nullary, TRef.ternary, TRef.unary, TRef.reshape, TRef.toBuf, TRef.ofBuf, cast_eq]
  after_results_simp
  rw [show W0 m ρ c (Proc.devRef .tc main_arg2) = a2 m c from rfl]
  simp only [pointwise]
  rw [dif_pos (by intro a; fin_cases a <;> simp [ix3] <;> omega)]
  refine congrArg (a2 m c) ?_
  congr 1 <;> apply Fin.ext <;> simp

/-- The table of row weights holds the weight of row `i` at `h`. -/
theorem V1_cst (i : Fin 256) (h : Fin 48) : (V1 m ρ c main_call0_cst : Vec Ideal S256x48 .f32) (ix2 i h) = weight (Tables.row i.val) h.val := by
  change StableHlo.after hostOps0 (W0 m ρ c) (Proc.devRef .tc main_call0_cst) (ix2 i h) = _
  simp only [hostOps0, TRef.binary, TRef.nullary, TRef.ternary, TRef.unary, TRef.reshape, TRef.toBuf, TRef.ofBuf, cast_eq]
  after_results_simp
  simp only [pointwise]
  rw [← word_weight, ← Tables.lit0_eq]
  change Ideal.ofBits FTy.f32 (lit0t (S256x48.rowMajor (ix2 i h)).val) = _
  rw [show (S256x48.rowMajor (ix2 i h)).val = i.val * 48 + h.val from Shape.rowMajor_val_two (d := ![256, 48]) _]

/-- The table of column weights holds the weight of column `j` at `w`. -/
theorem V1_cst0 (w : Fin 48) (j : Fin 256) : (V1 m ρ c main_call0_cst_0 : Vec Ideal S48x256 .f32) (ix2 w j) = weight (Tables.col j.val) w.val := by
  change StableHlo.after hostOps0 (W0 m ρ c) (Proc.devRef .tc main_call0_cst_0) (ix2 w j) = _
  simp only [hostOps0, TRef.binary, TRef.nullary, TRef.ternary, TRef.unary, TRef.reshape, TRef.toBuf, TRef.ofBuf, cast_eq]
  after_results_simp
  simp only [pointwise]
  rw [← word_weight, ← Tables.lit1_eq]
  change Ideal.ofBits FTy.f32 (lit1t (S48x256.rowMajor (ix2 w j)).val) = _
  rw [show (S48x256.rowMajor (ix2 w j)).val = w.val * 256 + j.val from Shape.rowMajor_val_two (d := ![48, 256]) _]

/-- The tables are still there when the third call's operands are made. -/
theorem W4_cst : W4 m ρ c (Proc.devRef .tc main_call0_cst) = V1 m ρ c main_call0_cst :=
  (W4_of m ρ c main_call0_cst (by decide)).trans ((W3_of m ρ c main_call0_cst (by decide)).trans (W2_of m ρ c main_call0_cst (by decide)))

/-- The table of column weights is unchanged up to the third call. -/
theorem W4_cst0 : W4 m ρ c (Proc.devRef .tc main_call0_cst_0) = V1 m ρ c main_call0_cst_0 :=
  (W4_of m ρ c main_call0_cst_0 (by decide)).trans ((W3_of m ρ c main_call0_cst_0 (by decide)).trans (W2_of m ρ c main_call0_cst_0 (by decide)))

/-- What the first call leaves at lane `k` of batch `b`. -/
theorem picked (b : Fin 2) (k : Fin 100) :
    (dat0 (F := Ideal) (V1 m ρ) c).arrAt 2 cfg0.N (ix3 b 0 ⟨k.val, by omega⟩) = score (a0 m c) b (pos (a0 m c) b k)
    ∧ (dat0 (F := Ideal) (V1 m ρ) c).arrAt 3 cfg0.N (ix3 b 0 ⟨k.val, by omega⟩) = BitVec.ofNat 32 ((pos (a0 m c) b k).val / 42)
    ∧ (dat0 (F := Ideal) (V1 m ρ) c).arrAt 4 cfg0.N (ix3 b 0 ⟨k.val, by omega⟩) = BitVec.ofNat 32 ((pos (a0 m c) b k).val % 42)
    ∧ ∀ d : Fin 4, (dat0 (F := Ideal) (V1 m ρ) c).arrAt 5 cfg0.N (ix3 b ⟨k.val, by omega⟩ d)
        = V1 m ρ c main_call0_v9 (ix3 b ⟨(pos (a0 m c) b k).val / 42, by omega⟩ d) :=
  Region0.arrays (V1 m ρ) c (score (a0 m c)) (fun b i => sg_nonneg _) (V1_v8 m ρ c) b ⟨k.val, by omega⟩ k.isLt

/-- The second call reads the masks with the queries last. -/
theorem V3_v16 (b : Fin 2) (t : Fin 4) (h w : Fin 48) (k : Fin 300) :
    (V3 m ρ c main_call0_v16 : Vec Ideal S2x4x48x48x300 .f32) (ix5 b t h w k) = a1 m c (ix5 b k t h w) := by
  change StableHlo.after hostOps1 (W2 m ρ c) (Proc.devRef .tc main_call0_v16) (ix5 b t h w k) = _
  simp only [hostOps1, TRef.binary, TRef.nullary, TRef.ternary, TRef.unary, TRef.reshape, TRef.toBuf, TRef.ofBuf, cast_eq]
  after_results_simp
  simp only [pointwise]
  rw [W2_args m ρ c main_arg1 (by decide)]

/-- The second call reads at lane `k` the query of the `k`-th largest score. -/
theorem V3_v10 (b : Fin 2) (k : Fin 100) :
    (V3 m ρ c main_call0_v10_1 : Vec Ideal S2x1x128 .i32) (ix3 b 0 ⟨k.val, by omega⟩) = BitVec.ofNat 32 (query (a0 m c) b k).val := by
  have e : V3 m ρ c main_call0_v10_1 = (dat0 (F := Ideal) (V1 m ρ) c).arrAt 3 cfg0.N :=
    (W3_of m ρ c main_call0_v10_1 (by decide)).trans (W2_arr m ρ c 3)
  rw [e]
  exact (picked m ρ c b k).2.1

/-- The scores. -/
theorem result0 (b : Fin 2) (k : Fin 100) : (W6 m ρ c (Proc.devRef .tc main_v0_0) : Vec Ideal S2x100 .f32) (ix2 b k) = score (a0 m c) b (pos (a0 m c) b k) := by
  rw [W6_of m ρ c main_v0_0 (by decide), W5_of m ρ c main_v0_0 (by decide), W4_of m ρ c main_v0_0 (by decide)]
  simp only [W3, hostOps1, TRef.binary, TRef.nullary, TRef.ternary, TRef.unary, TRef.reshape, TRef.toBuf, TRef.ofBuf, cast_eq]
  after_results_simp
  simp only [pointwise]
  rw [show W2 m ρ c (Proc.devRef .tc main_call0_v10_0) = (dat0 (F := Ideal) (V1 m ρ) c).arrAt 2 cfg0.N from W2_arr m ρ c 2]
  refine Eq.trans ?_ (picked m ρ c b k).1
  congr 1
  congr 1 <;> apply Fin.ext <;> simp

/-- The labels. -/
theorem result1 (b : Fin 2) (k : Fin 100) : (W6 m ρ c (Proc.devRef .tc main_v0_1) : Vec Ideal S2x100 .i32) (ix2 b k) = BitVec.ofNat 32 ((pos (a0 m c) b k).val % 42) := by
  rw [W6_of m ρ c main_v0_1 (by decide), W5_of m ρ c main_v0_1 (by decide), W4_of m ρ c main_v0_1 (by decide)]
  simp only [W3, hostOps1, TRef.binary, TRef.nullary, TRef.ternary, TRef.unary, TRef.reshape, TRef.toBuf, TRef.ofBuf, cast_eq]
  after_results_simp
  simp only [pointwise]
  rw [show W2 m ρ c (Proc.devRef .tc main_call0_v10_2) = (dat0 (F := Ideal) (V1 m ρ) c).arrAt 4 cfg0.N from W2_arr m ρ c 4]
  refine Eq.trans ?_ (picked m ρ c b k).2.2.1
  congr 1
  congr 1 <;> apply Fin.ext <;> simp

/-- The reference points. -/
theorem result2 (b : Fin 2) (k : Fin 100) (d : Fin 4) : (W6 m ρ c (Proc.devRef .tc main_v0_2) : Vec Ideal S2x100x4 .f32) (ix3 b k d) = a2 m c (ix3 b (query (a0 m c) b k) d) := by
  rw [W6_of m ρ c main_v0_2 (by decide), W5_of m ρ c main_v0_2 (by decide), W4_of m ρ c main_v0_2 (by decide)]
  simp only [W3, hostOps1, TRef.binary, TRef.nullary, TRef.ternary, TRef.unary, TRef.reshape, TRef.toBuf, TRef.ofBuf, cast_eq]
  after_results_simp
  simp only [pointwise]
  rw [show W2 m ρ c (Proc.devRef .tc main_call0_v10_3) = (dat0 (F := Ideal) (V1 m ρ) c).arrAt 5 cfg0.N from W2_arr m ρ c 5]
  refine Eq.trans ?_ (((picked m ρ c b k).2.2.2 d).trans (V1_v9 m ρ c b (query (a0 m c) b k) d))
  congr 1
  congr 1 <;> apply Fin.ext <;> simp

variable (hfin : ∀ i, ∃ r : ℝ, a1 m c i = ((r : ℝ) : EReal))
include hfin

/-- The third call reads at place `k` the masks of the query of the `k`-th largest score. -/
theorem V5_v18 (b : Fin 2) (k : Fin 100) (t : Fin 4) (h w : Fin 48) :
    (V5 m ρ c main_call0_v18 : Vec Ideal S2x104x192x48 .f32) (ix4 b ⟨k.val, by omega⟩ ⟨t.val * 48 + h.val, by omega⟩ w)
      = a1 m c (ix5 b (query (a0 m c) b k) t h w) := by
  change StableHlo.after hostOps2 (W4 m ρ c) (Proc.devRef .tc main_call0_v18) (ix4 b ⟨k.val, by omega⟩ ⟨t.val * 48 + h.val, by omega⟩ w) = _
  simp only [hostOps2, TRef.binary, TRef.nullary, TRef.ternary, TRef.unary, TRef.reshape, TRef.toBuf, TRef.ofBuf, cast_eq]
  after_results_simp
  simp only [pointwise]
  rw [show W4 m ρ c (Proc.devRef .tc main_call0_v17) = (dat1 (F := Ideal) (V3 m ρ) c).arrAt 2 cfg1.N from W4_arr m ρ c 2]
  refine (Arrays.gathered (V3 m ρ) c (fun i => ?_) b ⟨k.val, by omega⟩ t h w (query (a0 m c) b k) (V3_v10 m ρ c b k)).trans (V3_v16 m ρ c b t h w _)
  · rw [eq_ix5 i]
    exact (V3_v16 m ρ c _ _ _ _ _).symm ▸ hfin _

/-- The masks. -/
theorem result3 (b : Fin 2) (k : Fin 100) (t : Fin 4) (i j : Fin 256) :
    (W6 m ρ c (Proc.devRef .tc main_v0_3) : Vec Ideal S2x100x4x256x256 .i8) (ix5 b k t i j) = mask (a1 m c) b (query (a0 m c) b k) t i j := by
  have v21 : ∀ w j, (V5 m ρ c main_call0_v21 : Vec Ideal S48x256 .bf16) (ix2 w j) = weight (Tables.col j.val) w.val := by
    intro w j
    change StableHlo.after hostOps2 (W4 m ρ c) (Proc.devRef .tc main_call0_v21) (ix2 w j) = _
    simp only [hostOps2, TRef.binary, TRef.nullary, TRef.ternary, TRef.unary, TRef.reshape, TRef.toBuf, TRef.ofBuf, cast_eq]
    after_results_simp
    simp only [pointwise]
    rw [W4_cst0]
    exact V1_cst0 m ρ c w j
  have v20 : ∀ (i : Fin 256) (h : Fin 48), (V5 m ρ c main_call0_v20 : Vec Ideal S256x96 .bf16) (ix2 i ⟨h.val, by omega⟩) = weight (Tables.row i.val) h.val := by
    intro i h
    change StableHlo.after hostOps2 (W4 m ρ c) (Proc.devRef .tc main_call0_v20) (ix2 i ⟨h.val, by omega⟩) = _
    simp only [hostOps2, TRef.binary, TRef.nullary, TRef.ternary, TRef.unary, TRef.reshape, TRef.toBuf, TRef.ofBuf, cast_eq]
    after_results_simp
    simp only [pointwise]
    rw [dif_pos (by simp), StableHlo.reshape_result_ne (h := show main_call0_cst ≠ main_call0_v18 by decide), W4_cst]
    exact V1_cst m ρ c i h
  have hv : ∀ i : S48x256.Idx, ∃ r : ℝ, (V5 m ρ c main_call0_v21 : Vec Ideal S48x256 .bf16) i = ((r : ℝ) : EReal) := by
    intro i
    rw [eq_ix2 i]
    exact ⟨_, v21 _ _⟩
  rw [show W6 m ρ c (Proc.devRef .tc main_v0_3) = (dat2 (F := Ideal) (V5 m ρ) c).arrAt 12 cfg2.N from W6_arr m ρ c 12]
  refine (Arrays.masks (V5 m ρ) c (fun i => ?_) (fun b n r w => ?_) b k t i j).trans ?_
  · exact hv i
  · have e := V5_v18 m ρ c hfin b n ⟨r.val / 48, by omega⟩ ⟨r.val % 48, by omega⟩ w
    have er : (⟨(⟨r.val / 48, by omega⟩ : Fin 4).val * 48 + (⟨r.val % 48, by omega⟩ : Fin 48).val, by simp; omega⟩ : Fin 192) = r := by
      apply Fin.ext; simp; omega
    rw [er] at e
    exact e.symm ▸ hfin _
  · unfold Region2.bit mask
    refine congrArg (fun z : EReal => BitVec.setWidth 8 (BitVec.ofBool (decide (0 < z)))) (Finset.sum_congr rfl fun h _ => ?_)
    exact congrArg₂ (fun x y : EReal => x * y) (v20 i h) (Finset.sum_congr rfl fun w _ =>
      congrArg₂ (fun x y : EReal => x * y) (V5_v18 m ρ c hfin b k t h w) (v21 w j))

end Cert.Proof.KernelValues
-- ==== Proof.Launch.lean ====
module

public import proofs.«01_k».proof.Proof.Spec

@[expose] public section

set_option maxRecDepth 16384

noncomputable section

namespace Cert.Proof.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

set_option backward.isDefEq.respectTransparency.types false in
/-- Every run of the kernel's program ends with each unscoped buffer at the contents the last segment leaves. -/
theorem buffers : θ_run (defs (F := Ideal)) (onTc (τ := τ) (main (F := Ideal))) ⟨m, fun _ => 0, ρ⟩ (fun r =>
    ∀ c : Dev nD, ∀ b ∈ Pipeline.ucRefs τ sig, r.2.mem ((c : Thread nD τ).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- Every run of the kernel's program ends with its four results at the last segment's contents, the arguments as launched. -/
theorem run : θ_run (defs (F := Ideal)) (onTc (τ := τ) (main (F := Ideal))) ⟨m, fun _ => 0, ρ⟩ (fun r => ∀ c : Dev nD,
      r.2.mem ((c.tc : Thread nD τ).loc main_v0_0) = W6 m ρ c (Proc.devRef .tc main_v0_0)
      ∧ r.2.mem ((c.tc : Thread nD τ).loc main_v0_1) = W6 m ρ c (Proc.devRef .tc main_v0_1)
      ∧ r.2.mem ((c.tc : Thread nD τ).loc main_v0_2) = W6 m ρ c (Proc.devRef .tc main_v0_2)
      ∧ r.2.mem ((c.tc : Thread nD τ).loc main_v0_3) = W6 m ρ c (Proc.devRef .tc main_v0_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v0_0 (by decide)), h c _ (mem_uc main_v0_1 (by decide)), h c _ (mem_uc main_v0_2 (by decide)),
      h c _ (mem_uc main_v0_3 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c)⟩) (buffers m ρ)

end Cert.Proof.Launch
-- ==== Proof.ReferenceValues.lean ====
module

public import proofs.«01_k».proof.Proof.Spec
public import proofs.«01_k».proof.Proof.Gen.ReferenceIdeal.Run
public import Idealize.ShloMosaic.Lib.Pointwise.Tactic
public import Idealize.ShloMosaic.Lib.Pointwise.Reshape
public import Idealize.ShloMosaic.Lib.Pointwise.Contract
public import Idealize.ShloMosaic.Lib.Pointwise.Select

@[expose] public section

noncomputable section

namespace Cert.Proof.ReferenceValues

open Idealize.ShloMosaic Idealize.ShloMosaic.TcCoe Idealize.SL.Sem Idealize.ShloMosaic.StableHlo Cert.ReferenceIdeal Cert.ReferenceIdeal.Gen Cert.ReferenceIdeal.Value Cert.Proof.Spec

variable (V : Valuation τ sig (Elt Ideal))

/-- The class logits. -/
abbrev b0 : Vec Ideal S2x300x42 .f32 := V (Proc.devRef .tc main_arg0)
/-- The masks. -/
abbrev b1 : Vec Ideal S2x300x4x48x48 .f32 := V (Proc.devRef .tc main_arg1)
/-- The reference points. -/
abbrev b2 : Vec Ideal S2x300x4 .f32 := V (Proc.devRef .tc main_arg2)

/-- The word of one. -/
theorem one_f32 : Ideal.ofBits .f32 0x3F800000#32 = 1 := by
  simp [Ideal.ofBits, Ideal.ieee, -EReal.coe_mul]; norm_num

/-- The flat scores. -/
theorem v6 (b : Fin 2) (n : Fin 12600) : (res_main_v6 V : Vec Ideal S2x12600 .f32) (ix2 b n) = score (b0 V) b n := by
  unfold res_main_v6
  simp only [pointwise]
  unfold score sg
  simp only [one_f32]

/-- The flat scores, as a function. -/
abbrev flat : Vec Ideal S2x12600 .f32 := res_main_v6 V

/-- The sort of one row of the scores by "greater" puts position `pos` at place `k`. -/
theorem sorted (b : Fin 2) (k : Fin 100) (R : Fin 12600 → Fin 12600 → Bool)
    (hR : ∀ p q, R p q = (FloatOps.cmpfTotal (F := Ideal) (φ := .f32) .gt (flat V (ix2 b p)) (flat V (ix2 b q)) == 1#1)) :
    sortedFrom R ⟨k.val, by omega⟩ = pos (b0 V) b k := by
  refine TopK.sortedFrom_gt (score (b0 V) b) R (fun p q => ?_) _
  rw [hR, show flat V (ix2 b p) = _ from v6 V b p, show flat V (ix2 b q) = _ from v6 V b q]
  show (BitVec.ofBool (decide (score (b0 V) b q < score (b0 V) b p)) == 1#1) = _
  cases decide (score (b0 V) b q < score (b0 V) b p) <;> rfl

/-- Moving along the second axis of a pair of coordinates. -/
theorem along_one (b : Fin 2) (k p : Fin 12600) :
    Shape.Idx.along (s := S2x12600) (ix2 b k) 1 p = ix2 b p := by
  funext a
  match a with
  | ⟨0, _⟩ => rfl
  | ⟨1, _⟩ => rfl

/-- One row of a sort by the scores alone: the entry at place `k` is the one at the position the row's sort puts there. -/
theorem sort_row (y : IVec S2x12600 32) (b : Fin 2) (k : Fin 12600) :
    (Host.sort2 S2x12600 1 (fun l r => FloatOps.cmpfTotal (F := Ideal) (φ := .f32) .gt l.1 r.1) (flat V) y).1 (ix2 b k)
      = flat V (ix2 b (sortedFrom (fun p q : Fin 12600 => FloatOps.cmpfTotal (F := Ideal) (φ := .f32) .gt (flat V (ix2 b p)) (flat V (ix2 b q)) == 1#1) k))
    ∧ (Host.sort2 S2x12600 1 (fun l r => FloatOps.cmpfTotal (F := Ideal) (φ := .f32) .gt l.1 r.1) (flat V) y).2 (ix2 b k)
      = y (ix2 b (sortedFrom (fun p q : Fin 12600 => FloatOps.cmpfTotal (F := Ideal) (φ := .f32) .gt (flat V (ix2 b p)) (flat V (ix2 b q)) == 1#1) k)) := by
  unfold Host.sort2
  rw [dif_pos (show 1 < S2x12600.rank by decide)]
  have e : (fun p q : Fin 12600 => FloatOps.cmpfTotal (F := Ideal) (φ := .f32) .gt (flat V (Shape.Idx.along (s := S2x12600) (ix2 b k) 1 p)) (flat V (Shape.Idx.along (s := S2x12600) (ix2 b k) 1 q)) == 1#1)
      = fun p q : Fin 12600 => FloatOps.cmpfTotal (F := Ideal) (φ := .f32) .gt (flat V (ix2 b p)) (flat V (ix2 b q)) == 1#1 := by
    funext p q; rw [along_one, along_one]
  rw [← e]
  exact ⟨congrArg (flat V) (along_one b k _), congrArg y (along_one b k _)⟩

/-- The first hundred places of a row. -/
theorem slice_read {α : Type} (x : S2x12600.Idx → α) (b : Fin 2) (k : Fin 100) :
    extractStridedSlice S2x100 (fun _ => 0) x sliceFits_S2x12600_S2x100 (ix2 b k) = x (ix2 b ⟨k.val, by omega⟩) := by
  simp only [pointwise]
  refine congrArg x ?_
  congr 1 <;> apply Fin.ext <;> simp

/-- The greatest scores: place `k` holds the score at `pos`. -/
theorem top_values (b : Fin 2) (k : Fin 100) :
    (Host.topK S2x100 1 (FloatOps.cmpfTotal (F := Ideal) (φ := .f32) .gt) (flat V) sliceFits_S2x12600_S2x100).1 (ix2 b k)
      = score (b0 V) b (pos (b0 V) b k) := by
  show extractStridedSlice S2x100 (fun _ => 0) (Host.sort2 S2x12600 1 (fun l r => FloatOps.cmpfTotal (F := Ideal) (φ := .f32) .gt l.1 r.1) (flat V) (fun i => if hd : 1 < S2x12600.rank then iotaInDim S2x12600 32 ⟨1, hd⟩ i else 0#32)).1 sliceFits_S2x12600_S2x100 (ix2 b k) = _
  refine Eq.trans (slice_read _ b k) (((sort_row V _ b _).1).trans ?_)
  rw [sorted V b k _ fun p q => rfl]
  exact v6 V b _

/-- The positions of the greatest scores. -/
theorem top_indices (b : Fin 2) (k : Fin 100) :
    (res_main_indices V : IVec S2x100 32) (ix2 b k) = BitVec.ofNat 32 (pos (b0 V) b k).val := by
  show extractStridedSlice S2x100 (fun _ => 0) (Host.sort2 S2x12600 1 (fun l r => FloatOps.cmpfTotal (F := Ideal) (φ := .f32) .gt l.1 r.1) (flat V) (fun i => if hd : 1 < S2x12600.rank then iotaInDim S2x12600 32 ⟨1, hd⟩ i else 0#32)).2 sliceFits_S2x12600_S2x100 (ix2 b k) = _
  refine Eq.trans (slice_read _ b k) (((sort_row V _ b _).2).trans ?_)
  rw [sorted V b k _ fun p q => rfl]
  rfl

/-- The remainder by 42 of a position's word, with the sign repaired. -/
def remWord (x : BitVec 32) : BitVec 32 :=
  Scalar.select
      (IntOp.andi
        (IntOp.cmpi CmpIPredicate.ne
          (IntOp.cmpi CmpIPredicate.slt
            (IntOp.remsi ArithUnit.host x
              (Scalar.select (IntOp.cmpi CmpIPredicate.eq 42#32 0#32) 1#32 42#32))
            0#32)
          (IntOp.cmpi CmpIPredicate.slt (Scalar.select (IntOp.cmpi CmpIPredicate.eq 42#32 0#32) 1#32 42#32) 0#32))
        (IntOp.cmpi CmpIPredicate.ne
          (IntOp.remsi ArithUnit.host x
            (Scalar.select (IntOp.cmpi CmpIPredicate.eq 42#32 0#32) 1#32 42#32))
          0#32))
      (IntOp.addi
        (IntOp.remsi ArithUnit.host x
          (Scalar.select (IntOp.cmpi CmpIPredicate.eq 42#32 0#32) 1#32 42#32))
        (Scalar.select (IntOp.cmpi CmpIPredicate.eq 42#32 0#32) 1#32 42#32))
      (IntOp.remsi ArithUnit.host x
        (Scalar.select (IntOp.cmpi CmpIPredicate.eq 42#32 0#32) 1#32 42#32))

/-- The quotient by 42 of a position's word, rounded down. -/
def quotWord (x : BitVec 32) : BitVec 32 :=
  Scalar.select
      (IntOp.andi
        (IntOp.cmpi CmpIPredicate.ne
          (if x = 0 then (0 : BitVec 32)
          else if x.msb = true then -1 else 1)
          (if 42#32 = 0 then (0 : BitVec 32) else if (42#32).msb = true then -1 else 1))
        (IntOp.cmpi CmpIPredicate.ne (IntOp.remsi ArithUnit.host x 42#32) 0#32))
      (IntOp.subi (IntOp.divsi ArithUnit.host x 42#32) 1#32)
      (IntOp.divsi ArithUnit.host x 42#32)

/-- Both words at every position, as query and class. -/
theorem words : ∀ q : Fin 300, ∀ r : Fin 42, quotWord (BitVec.ofNat 32 (q.val * 42 + r.val)) = BitVec.ofNat 32 q.val
    ∧ remWord (BitVec.ofNat 32 (q.val * 42 + r.val)) = BitVec.ofNat 32 r.val := by decide +kernel

/-- The quotient word of a position is the word of the quotient. -/
theorem quotWord_eq (n : Nat) (h : n < 12600) : quotWord (BitVec.ofNat 32 n) = BitVec.ofNat 32 (n / 42) := by
  have := (words ⟨n / 42, by omega⟩ ⟨n % 42, by omega⟩).1
  simpa only [Nat.div_add_mod'] using this

/-- The remainder word of a position is the word of the remainder. -/
theorem remWord_eq (n : Nat) (h : n < 12600) : remWord (BitVec.ofNat 32 n) = BitVec.ofNat 32 (n % 42) := by
  have := (words ⟨n / 42, by omega⟩ ⟨n % 42, by omega⟩).2
  simpa only [Nat.div_add_mod'] using this

/-- The index a gather reads for a query's word: that word, since it is not negative. -/
theorem wrap_eq : ∀ q : Fin 300, Scalar.select (IntOp.cmpi CmpIPredicate.slt (BitVec.ofNat 32 q.val) 0#32) (IntOp.addi (BitVec.ofNat 32 q.val) 300#32) (BitVec.ofNat 32 q.val)
    = BitVec.ofNat 32 q.val := by decide +kernel

/-- The labels. -/
theorem label (b : Fin 2) (k : Fin 100) : (select (andi (cmpi .ne (cmpi .slt (res_main_call1_v4 V) (broadcastInDim S2x100 ![] bcast_S_S2x100 (constantI S_ 32 0#32))) (broadcastInDim S2x100 ![] bcast_S_S2x100 (cmpi .slt (res_main_call1_v2 V) (constantI S_ 32 0#32)))) (cmpi .ne (res_main_call1_v4 V) (broadcastInDim S2x100 ![] bcast_S_S2x100 (constantI S_ 32 0#32)))) (addi (res_main_call1_v4 V) (broadcastInDim S2x100 ![] bcast_S_S2x100 (res_main_call1_v2 V))) (res_main_call1_v4 V) : IVec S2x100 32) (ix2 b k)
    = BitVec.ofNat 32 ((pos (b0 V) b k).val % 42) := by
  unfold res_main_call1_v4 res_main_call1_v2 res_main_call1_v0
  simp only [pointwise, top_indices, id_eq]
  exact remWord_eq _ (pos (b0 V) b k).isLt

/-- The query word. -/
theorem v7 (b : Fin 2) (k : Fin 100) : (res_main_v7 V : IVec S2x100 32) (ix2 b k) = BitVec.ofNat 32 ((pos (b0 V) b k).val / 42) := by
  unfold res_main_v7 res_main_call0_v2 res_main_call0_v0
  simp only [pointwise, top_indices, id_eq]
  exact quotWord_eq _ (pos (b0 V) b k).isLt

/-- The index of the reference points' gather, at a query word. -/
theorem wrap_read4 (x : IVec S2x100 32) (b : Fin 2) (k : Fin 100) (q : Fin 300) (hx : x (ix2 b k) = BitVec.ofNat 32 q.val) :
    (select (cmpi .slt (broadcastInDim S2x100x1 ![0, 1] bcast_S2x100_S2x100x1_0_1 x) (broadcastInDim S2x100x1 ![] bcast_S_S2x100x1 (constantI S_ 32 0#32))) (addi (broadcastInDim S2x100x1 ![0, 1] bcast_S2x100_S2x100x1_0_1 x) (broadcastInDim S2x100x1 ![] bcast_S_S2x100x1 (constantI S_ 32 300#32))) (broadcastInDim S2x100x1 ![0, 1] bcast_S2x100_S2x100x1_0_1 x) : IVec S2x100x1 32) (ix3 b k 0)
      = BitVec.ofNat 32 q.val := by
  simp only [pointwise]
  show Scalar.select (IntOp.cmpi CmpIPredicate.slt (x (ix2 b k)) 0#32) (IntOp.addi (x (ix2 b k)) 300#32) (x (ix2 b k)) = _
  rw [hx]
  exact wrap_eq q

/-- The index of the masks' gather, at a query word. -/
theorem wrap_read2 (x : IVec S2x100 32) (b : Fin 2) (k : Fin 100) (q : Fin 300) (hx : x (ix2 b k) = BitVec.ofNat 32 q.val) :
    (shapeCast S2x100x1 (select (cmpi .slt (broadcastInDim S2x100x1x1x1 ![0, 1] bcast_S2x100_S2x100x1x1x1_0_1 x) (broadcastInDim S2x100x1x1x1 ![] bcast_S_S2x100x1x1x1 (constantI S_ 32 0#32))) (addi (broadcastInDim S2x100x1x1x1 ![0, 1] bcast_S2x100_S2x100x1x1x1_0_1 x) (broadcastInDim S2x100x1x1x1 ![] bcast_S_S2x100x1x1x1 (constantI S_ 32 300#32))) (broadcastInDim S2x100x1x1x1 ![0, 1] bcast_S2x100_S2x100x1x1x1_0_1 x)) shapeCasts_S2x100x1x1x1_S2x100x1 : IVec S2x100x1 32) (ix3 b k 0)
      = BitVec.ofNat 32 q.val := by
  simp only [pointwise]
  show Scalar.select (IntOp.cmpi CmpIPredicate.slt (x (ix2 b k)) 0#32) (IntOp.addi (x (ix2 b k)) 300#32) (x (ix2 b k)) = _
  rw [hx]
  exact wrap_eq q

/-- The row index the reference points' gather reads is the query. -/
theorem call4_v4 (b : Fin 2) (k : Fin 100) :
    (res_main_call4_v4 V : IVec S2x100x1 32) (ix3 b k 0) = BitVec.ofNat 32 (query (b0 V) b k).val :=
  wrap_read4 _ b k (query (b0 V) b k) (v7 V b k)

/-- The row index the masks' gather reads is the query. -/
theorem call2_v5 (b : Fin 2) (k : Fin 100) :
    (res_main_call2_v5 V : IVec S2x100x1 32) (ix3 b k 0) = BitVec.ofNat 32 (query (b0 V) b k).val :=
  wrap_read2 _ b k (query (b0 V) b k) (v7 V b k)

/-- A word of a query is within the bounds both tests ask about. -/
theorem bounds_eq : ∀ q : Fin 300, IntOp.andi (IntOp.cmpi CmpIPredicate.sge (BitVec.ofNat 32 q.val) 0#32) (IntOp.cmpi CmpIPredicate.sle (BitVec.ofNat 32 q.val) 299#32)
    = 1#1 := by decide +kernel

/-- A conjunction over entries that are all true is true. -/
theorem reduce_and (x : IVec S2x100x1 1) (hx : ∀ i, x i = 1#1) (b : Fin 2) (k : Fin 100) :
    (Host.reduce IntOp.andi x (constantI S_ 1 1#1) reducesTo_S2x100x1_S2x100_d2 h_S_ : IVec S2x100 1) (ix2 b k) = 1#1 := by
  unfold Host.reduce
  simp only [hx]
  generalize List.filter _ _ = l
  show l.foldl (fun r _ => IntOp.andi r 1#1) 1#1 = 1#1
  induction l with
  | nil => rfl
  | cons a l ih => exact ih

/-- The bounds test of a gather whose indices are query words is true everywhere. -/
theorem in_bounds (x : IVec S2x100x1 32) (q : Fin 2 → Fin 100 → Fin 300) (hx : ∀ b k, x (ix3 b k 0) = BitVec.ofNat 32 (q b k).val) (b : Fin 2) (k : Fin 100) :
    (Host.reduce IntOp.andi (andi (cmpi .sge x (broadcastInDim S2x100x1 ![] bcast_S_S2x100x1 (constantI S_ 32 0#32))) (cmpi .sle x (broadcastInDim S2x100x1 ![0, 1, 2] bcast_S1x1x1_S2x100x1_0_1_2 (broadcastInDim S1x1x1 ![2] bcast_S1_S1x1x1_2 (constantI S1 32 299#32))))) (constantI S_ 1 1#1) reducesTo_S2x100x1_S2x100_d2 h_S_ : IVec S2x100 1) (ix2 b k) = 1#1 := by
  refine reduce_and _ (fun i => ?_) b k
  obtain ⟨b', k', e⟩ : ∃ (b' : Fin 2) (k' : Fin 100), i = ix3 (n0 := 2) (n1 := 100) (n2 := 1) b' k' 0 :=
    ⟨i 0, i 1, (Idealize.ShloMosaic.eq_ix3 i).trans (congrArg (ix3 (n0 := 2) (n1 := 100) (n2 := 1) (i 0) (i 1)) (Subsingleton.elim (α := Fin 1) _ _))⟩
  rw [e]
  simp only [pointwise]
  rw [hx]
  exact bounds_eq _

/-- A query's word, read as a signed integer within the gather's range, is the query. -/
theorem query_toNat : ∀ q : Fin 300, min (BitVec.ofNat 32 q.val).toInt.toNat 299 + 0 + 0 = q.val := by decide +kernel

/-- The gather of the reference points at query words. -/
theorem gather4 (x : Vec Ideal S2x300x4 .f32) (idx : IVec S2x100x1 32) (b : Fin 2) (k : Fin 100) (d : Fin 4) (q : Fin 300)
    (hq : idx (ix3 b k 0) = BitVec.ofNat 32 q.val) :
    Host.gather gather_S2x300x4_S2x100x1_S2x100x4_2_1_0_0_1_2_114 x idx (ix3 b k d) = x (ix3 b q d) := by
  unfold Host.gather
  refine congrArg x ?_
  funext a
  refine Fin.ext ?_
  show GatherDims.start _ _ idx a + GatherDims.batchCoord _ _ a + GatherDims.offCoord _ _ a = _
  match a with
  | ⟨0, _⟩ =>
    show 0 + b.val + 0 = b.val
    omega
  | ⟨1, _⟩ =>
    show min (idx (GatherDims.siIdx _ _ _)).toInt.toNat 299 + 0 + 0 = q.val
    have e : gather_S2x300x4_S2x100x1_S2x100x4_2_1_0_0_1_2_114.siIdx (ix3 b k d) ⟨0, by decide⟩ = ix3 b k 0 := by
      funext a
      match a with
      | ⟨0, _⟩ => rfl
      | ⟨1, _⟩ => rfl
      | ⟨2, _⟩ => rfl
    refine Eq.trans (congrArg (fun i => min (idx i).toInt.toNat 299 + 0 + 0) e) ?_
    show min (idx (ix3 b k 0)).toInt.toNat 299 + 0 + 0 = q.val
    rw [hq]
    exact query_toNat q
  | ⟨2, _⟩ =>
    show 0 + 0 + d.val = d.val
    omega

/-- The reference points of the chosen queries. -/
theorem refs (b : Fin 2) (k : Fin 100) (d : Fin 4) : (select (broadcastInDim S2x100x4 ![0, 1] bcast_S2x100_S2x100x4_0_1 (Host.reduce IntOp.andi (andi (cmpi .sge (res_main_call4_v4 V) (broadcastInDim S2x100x1 ![] bcast_S_S2x100x1 (constantI S_ 32 0#32))) (cmpi .sle (res_main_call4_v4 V) (broadcastInDim S2x100x1 ![0, 1, 2] bcast_S1x1x1_S2x100x1_0_1_2 (broadcastInDim S1x1x1 ![2] bcast_S1_S1x1x1_2 (constantI S1 32 299#32))))) (constantI S_ 1 1#1) reducesTo_S2x100x1_S2x100_d2 h_S_)) (Host.gather gather_S2x300x4_S2x100x1_S2x100x4_2_1_0_0_1_2_114 (b2 V) (res_main_call4_v4 V)) (broadcastInDim S2x100x4 ![] bcast_S_S2x100x4 (constant (F := Ideal) S_ .f32 0x7FC00000#32)) : Vec Ideal S2x100x4 .f32) (ix3 b k d)
    = b2 V (ix3 b (query (b0 V) b k) d) := by
  refine Eq.trans (b := Scalar.select ((Host.reduce IntOp.andi (andi (cmpi .sge (res_main_call4_v4 V) (broadcastInDim S2x100x1 ![] bcast_S_S2x100x1 (constantI S_ 32 0#32))) (cmpi .sle (res_main_call4_v4 V) (broadcastInDim S2x100x1 ![0, 1, 2] bcast_S1x1x1_S2x100x1_0_1_2 (broadcastInDim S1x1x1 ![2] bcast_S1_S1x1x1_2 (constantI S1 32 299#32))))) (constantI S_ 1 1#1) reducesTo_S2x100x1_S2x100_d2 h_S_ : IVec S2x100 1) (ix2 b k)) _ _) (by simp only [pointwise]; rfl) ?_
  rw [in_bounds _ (query (b0 V)) (call4_v4 V)]
  exact gather4 _ _ b k d _ (call4_v4 V b k)

end Cert.Proof.ReferenceValues

end
-- ==== Proof.ReferenceMasks.lean ====
module

public import proofs.«01_k».proof.Proof.ReferenceValues
public import Idealize.ShloMosaic.Lib.Pointwise.Reduce

@[expose] public section

noncomputable section

namespace Cert.Proof.ReferenceMasks

open Idealize.ShloMosaic Idealize.ShloMosaic.TcCoe Idealize.SL.Sem Idealize.ShloMosaic.StableHlo Cert.ReferenceIdeal Cert.ReferenceIdeal.Gen Cert.ReferenceIdeal.Value Cert.Proof.Spec Cert.Proof.ReferenceValues

variable (V : Valuation τ sig (Elt Ideal))

/-- The word of a half. -/
theorem half_f32 : Ideal.ofBits .f32 0x3F000000#32 = ((1 / 2 : ℝ) : EReal) := by
  simp [Ideal.ofBits, Ideal.ieee, -EReal.coe_mul]; norm_num

/-- The word of a quarter. -/
theorem quarter_f32 : Ideal.ofBits .f32 0x3E800000#32 = ((1 / 4 : ℝ) : EReal) := by
  simp [Ideal.ofBits, Ideal.ieee, -EReal.coe_mul]; norm_num

/-- A small word read as a signed integer is its number. -/
theorem sitofp_nat (n : ℕ) (h : n < 2 ^ 31) : (FloatOps.sitofp .f32 (BitVec.ofNat 32 n) : Ideal .f32) = ((n : ℝ) : EReal) := by
  change (((BitVec.ofNat 32 n).toInt : ℝ) : EReal) = _
  have e : (BitVec.ofNat 32 n).toInt = (n : ℤ) := by
    rw [BitVec.toInt_eq_toNat_of_lt] <;> rw [BitVec.toNat_ofNat, Nat.mod_eq_of_lt (by omega)]
    omega
  rw [e]
  norm_cast

/-- Eight times the triangle of output pixel `r` at input pixel `h`. -/
def tent (r h : ℕ) : ℕ := 8 - ((2 * r - (3 + 8 * h)) + (3 + 8 * h - 2 * r))

/-- The triangle weight in eighths, as an integer. -/
theorem tent_int (r h : ℕ) : ((tent r h : ℕ) : ℤ) = max (8 - max (2 * (r : ℤ) - 3 - 8 * h) (-(2 * (r : ℤ) - 3 - 8 * h))) 0 := by
  unfold tent; omega

/-- The triangle weight of sample `r` at pixel `h`, as a real number. -/
theorem tent_real (r h : ℕ) : max (1 - max (((r : ℝ) + 1 / 2) * (1 / 4) - 1 / 2 - h) (-(((r : ℝ) + 1 / 2) * (1 / 4) - 1 / 2 - h))) 0 = (tent r h : ℝ) / 8 := by
  have e : ((tent r h : ℕ) : ℝ) = max (8 - max (2 * (r : ℝ) - 3 - 8 * h) (-(2 * (r : ℝ) - 3 - 8 * h))) 0 := by
    exact_mod_cast congrArg (fun z : ℤ => (z : ℝ)) (tent_int r h)
  rw [e]
  simp only [max_def]
  split_ifs <;> linarith

/-- The larger of two reals, as extended reals. -/
theorem coe_max (x y : ℝ) : max (x : EReal) (y : EReal) = ((max x y : ℝ) : EReal) :=
  (EReal.coe_strictMono.monotone.map_max).symm

/-- The reference's unnormalized weights are the triangle weights. -/
theorem tent_apply (h : Fin 48) (r : Fin 192) : (res_main_call3_v17 V : FVec Ideal S48x192 .f32) (ix2 h r) = ((tent r.val h.val / 8 : ℝ) : EReal) := by
  unfold res_main_call3_v17
  simp only [pointwise]
  show max (1 - FloatOps.absf (((FloatOps.sitofp FTy.f32 (BitVec.ofNat 32 r.val) : Ideal .f32) + Ideal.ofBits FTy.f32 1056964608#32) *
                Ideal.ofBits FTy.f32 1048576000#32 - Ideal.ofBits FTy.f32 1056964608#32 -
            (FloatOps.sitofp FTy.f32 (BitVec.ofNat 32 h.val) : Ideal .f32) : Ideal .f32)) (0 : EReal) = _
  rw [sitofp_nat _ (by omega), sitofp_nat _ (by omega), half_f32, quarter_f32]
  change max (1 - max ((((r.val : ℝ) : EReal) + ((1 / 2 : ℝ) : EReal)) * ((1 / 4 : ℝ) : EReal) - ((1 / 2 : ℝ) : EReal) - ((h.val : ℝ) : EReal)) (-((((r.val : ℝ) : EReal) + ((1 / 2 : ℝ) : EReal)) * ((1 / 4 : ℝ) : EReal) - ((1 / 2 : ℝ) : EReal) - ((h.val : ℝ) : EReal)))) (0 : EReal) = _
  rw [← EReal.coe_one, ← EReal.coe_zero]
  simp only [← EReal.coe_add, ← EReal.coe_mul, ← EReal.coe_sub, ← EReal.coe_neg, coe_max]
  rw [tent_real]

/-- The sum of the triangles of one output pixel. -/
def total (r : ℕ) : ℕ := ∑ h : Fin 48, tent r h.val

/-- The triangle weights of a sample do not sum to zero. -/
theorem total_pos : ∀ r : Fin 192, total r.val ≠ 0 := by decide +kernel

/-- The triangle weights divided by their sum are the weights of the kernel's tables. -/
theorem tent_wt : ∀ r : Fin 192, ∀ h : Fin 48, tent r.val h.val * 8 = Tables.wt r.val h.val * total r.val := by decide +kernel

/-- A sum of reals, as extended reals. -/
theorem coe_sum {n : ℕ} (f : Fin n → ℝ) : ∑ i, ((f i : ℝ) : EReal) = ((∑ i, f i : ℝ) : EReal) :=
  (map_sum (⟨⟨Real.toEReal, rfl⟩, EReal.coe_add⟩ : ℝ →+ EReal) _ _).symm

/-- The interpolation weights. -/
theorem v12 (h : Fin 48) (r : Fin 192) : (res_main_v12 V : FVec Ideal S48x192 .f32) (ix2 h r) = weight r.val h.val := by
  have key : ∀ x : FVec Ideal S48x192 .f32, (∀ h r, x (ix2 h r) = ((tent r.val h.val / 8 : ℝ) : EReal)) →
      (Host.divf x (broadcastInDim S48x192 ![0, 1] bcast_S1x192_S48x192_0_1 (broadcastInDim S1x192 ![1] bcast_S192_S1x192_1 (Host.reduceAdd x (constant S_ .f32 0x00000000#32) reducesTo_S48x192_S192_d0 h_S_))) : FVec Ideal S48x192 .f32) (ix2 h r) = weight r.val h.val := by
    intro x hx
    have hs : (Host.reduceAdd x (constant S_ .f32 0x00000000#32) reducesTo_S48x192_S192_d0 h_S_ : FVec Ideal S192 .f32) (ix1 r) = ((total r.val / 8 : ℝ) : EReal) := by
      simp only [pointwise]
      simp only [hx]
      rw [coe_sum, zero_add]
      unfold total
      rw [Nat.cast_sum, Finset.sum_div]
    have hd : ∀ y : FVec Ideal S192 .f32, (Host.divf x (broadcastInDim S48x192 ![0, 1] bcast_S1x192_S48x192_0_1 (broadcastInDim S1x192 ![1] bcast_S192_S1x192_1 y)) : FVec Ideal S48x192 .f32) (ix2 h r) = Ideal.div (x (ix2 h r)) (y (ix1 r)) := by
      intro y
      simp only [pointwise]
      rfl
    refine (hd _).trans ((congrArg₂ Ideal.div (hx h r) hs).trans ?_)
    have h0 : (total r.val : ℝ) ≠ 0 := by exact_mod_cast total_pos r
    have hw : (tent r.val h.val : ℝ) * 8 = Tables.wt r.val h.val * total r.val := by exact_mod_cast tent_wt r h
    unfold Ideal.div weight
    rw [if_neg (by exact_mod_cast (div_ne_zero h0 (by norm_num : (8 : ℝ) ≠ 0))), ← EReal.coe_inv, ← EReal.coe_mul]
    refine congrArg (fun z : ℝ => (z : EReal)) ?_
    field_simp
    linarith
  exact key _ (tent_apply V)

/-- The interpolation weights, as an array. -/
abbrev wts : FVec Ideal S48x192 .f32 := res_main_v12 V

/-- The first contraction: over the rows. -/
theorem dot1 (W : FVec Ideal S48x192 .f32) (x : FVec Ideal S200x4x48x48 .f32) (n : Fin 200) (t : Fin 4) (r : Fin 192) (w : Fin 48) :
   (transpose S200x4x192x48 [1, 2, 0, 3] (Host.dotGeneral dot_S48x192_S200x4x48x48_S192x200x4x48_0_2_1_013_n_n (some .fp32) W x) transposes_S192x200x4x48_S200x4x192x48_1_2_0_3 : FVec Ideal S200x4x192x48 .f32) (ix4 n t r w) = ∑ h : Fin 48, W (ix2 h r) * x (ix4 n t h w) := by
  simp only [pointwise]
  exact zero_add _

/-- The second contraction: over the columns. -/
theorem dot2 (W : FVec Ideal S48x192 .f32) (x : FVec Ideal S200x4x192x48 .f32) (n : Fin 200) (t : Fin 4) (r : Fin 192) (c : Fin 192) :
   (Host.dotGeneral dot_S200x4x192x48_S48x192_S200x4x192x192_3_0_012_1_n_n (some .fp32) x W : FVec Ideal S200x4x192x192 .f32) (ix4 n t r c) = ∑ w : Fin 48, x (ix4 n t r w) * W (ix2 w c) := by
  simp only [pointwise]
  exact zero_add _

/-- The word of 256. -/
theorem w256_f32 : Ideal.ofBits .f32 0x43800000#32 = ((256 : ℝ) : EReal) := by
  simp [Ideal.ofBits, Ideal.ieee, -EReal.coe_mul]; norm_num

/-- The word of 180. -/
theorem w180_f32 : Ideal.ofBits .f32 0x43340000#32 = (((180 : ℕ) : ℝ) : EReal) := by
  simp [Ideal.ofBits, Ideal.ieee, -EReal.coe_mul]; norm_num

/-- The word of 192. -/
theorem w192_f32 : Ideal.ofBits .f32 0x43400000#32 = (((192 : ℕ) : ℝ) : EReal) := by
  simp [Ideal.ofBits, Ideal.ieee, -EReal.coe_mul]; norm_num

/-- The nearest source index of output index `i` of 256, for a source of `n`. -/
theorem nearest (i : Fin 256) (n : ℕ) (hn : n ≤ 192) :
    (FloatOps.fptosi (F := Ideal) (φ := .f32) 32 (Ideal.liftRound Int.floor (Ideal.div (((FloatOps.sitofp .f32 (BitVec.ofNat 32 i.val) : Ideal .f32) + Ideal.ofBits FTy.f32 1056964608#32) * ((n : ℝ) : EReal)) (Ideal.ofBits FTy.f32 1132462080#32))))
      = BitVec.ofNat 32 ((2 * i.val + 1) * n / 512) := by
  rw [sitofp_nat _ (by omega), half_f32, w256_f32]
  have e : Ideal.div ((((i.val : ℝ) : EReal) + ((1 / 2 : ℝ) : EReal)) * ((n : ℝ) : EReal)) ((256 : ℝ) : EReal) = (((i.val + 1 / 2) * n * 256⁻¹ : ℝ) : EReal) := by
    unfold Ideal.div
    rw [if_neg (by exact_mod_cast (by norm_num : (256 : ℝ) ≠ 0)), ← EReal.coe_add, ← EReal.coe_mul, ← EReal.coe_inv, ← EReal.coe_mul]
  refine Eq.trans (congrArg (fun z : EReal => (FloatOps.fptosi (F := Ideal) (φ := .f32) 32 (Ideal.liftRound Int.floor z))) e) ?_
  have hd := Nat.div_add_mod ((2 * i.val + 1) * n) 512
  have hm := Nat.mod_lt ((2 * i.val + 1) * n) (show 512 > 0 by norm_num)
  have hq : (2 * i.val + 1) * n / 512 ≤ 192 := by
    refine Nat.div_le_of_le_mul ?_
    have : (2 * i.val + 1) * n ≤ 511 * 192 := Nat.mul_le_mul (by omega) hn
    omega
  generalize hqq : (2 * i.val + 1) * n / 512 = q at hd hq ⊢
  generalize hmm : (2 * i.val + 1) * n % 512 = p at hd hm
  have hdr : 512 * (q : ℝ) + p = (2 * i.val + 1) * n := by exact_mod_cast hd
  have hmr : (p : ℝ) < 512 := by exact_mod_cast hm
  have hpr : (0 : ℝ) ≤ p := Nat.cast_nonneg p
  have hf : ⌊((i.val : ℝ) + 1 / 2) * n * 256⁻¹⌋ = (q : ℤ) := by
    rw [Int.floor_eq_iff]
    have : ((i.val : ℝ) + 1 / 2) * n * 256⁻¹ = (2 * i.val + 1) * n / 512 := by ring
    rw [this, ← hdr]
    constructor
    · push_cast; linarith
    · push_cast; linarith
  show Ideal.fptosi 32 (Ideal.liftRound Int.floor (((((i.val : ℝ) + 1 / 2) * n * 256⁻¹ : ℝ)) : EReal)) = _
  rw [Ideal.liftRound_coe, hf]
  show BitVec.ofInt 32 (max _ (min _ (if (0 : ℝ) ≤ (((q : ℤ) : ℝ)) then ⌊(((q : ℤ) : ℝ))⌋ else ⌈(((q : ℤ) : ℝ))⌉))) = _
  rw [if_pos (by push_cast; exact Nat.cast_nonneg q), Int.floor_intCast]
  rw [show max (-((2 ^ (32 - 1) : ℕ) : ℤ)) (min (((2 ^ (32 - 1) : ℕ) : ℤ) - 1) (q : ℤ)) = (q : ℤ) by omega]
  exact BitVec.ofInt_natCast 32 q

/-- A row's word is not negative. -/
theorem wrap180 : ∀ i : Fin 256, Scalar.select (IntOp.cmpi CmpIPredicate.slt (BitVec.ofNat 32 ((2 * i.val + 1) * 180 / 512)) 0#32) (IntOp.addi (BitVec.ofNat 32 ((2 * i.val + 1) * 180 / 512)) 180#32) (BitVec.ofNat 32 ((2 * i.val + 1) * 180 / 512))
    = BitVec.ofNat 32 (Tables.row i.val) := by decide +kernel

/-- A column's word is not negative. -/
theorem wrap192 : ∀ i : Fin 256, Scalar.select (IntOp.cmpi CmpIPredicate.slt (BitVec.ofNat 32 ((2 * i.val + 1) * 192 / 512)) 0#32) (IntOp.addi (BitVec.ofNat 32 ((2 * i.val + 1) * 192 / 512)) 192#32) (BitVec.ofNat 32 ((2 * i.val + 1) * 192 / 512))
    = BitVec.ofNat 32 (Tables.col i.val) := by decide +kernel

/-- The row indices. -/
theorem row_index (i : Fin 256) :
   (broadcastInDim S256x1 ![0] bcast_S256_S256x1_0 (select (cmpi .slt (res_main_call5_v8 V) (broadcastInDim S256 ![] bcast_S_S256 (constantI S_ 32 0#32))) (addi (res_main_call5_v8 V) (broadcastInDim S256 ![] bcast_S_S256 (constantI S_ 32 180#32))) (res_main_call5_v8 V)) : IVec S256x1 32) (ix2 i 0) = BitVec.ofNat 32 (Tables.row i.val) := by
  have h : (res_main_call5_v8 V : IVec S256 32) (ix1 i) = BitVec.ofNat 32 ((2 * i.val + 1) * 180 / 512) := by
    rw [← nearest i 180 (by norm_num), ← w180_f32]
    unfold res_main_call5_v8
    simp only [pointwise]
  have key : ∀ x : IVec S256 32, x (ix1 i) = BitVec.ofNat 32 ((2 * i.val + 1) * 180 / 512) →
      (broadcastInDim S256x1 ![0] bcast_S256_S256x1_0 (select (cmpi .slt x (broadcastInDim S256 ![] bcast_S_S256 (constantI S_ 32 0#32))) (addi x (broadcastInDim S256 ![] bcast_S_S256 (constantI S_ 32 180#32))) x) : IVec S256x1 32) (ix2 i 0) = BitVec.ofNat 32 (Tables.row i.val) := by
    intro x hx
    simp only [pointwise]
    show Scalar.select (IntOp.cmpi CmpIPredicate.slt (x (ix1 i)) 0#32) (IntOp.addi (x (ix1 i)) 180#32) (x (ix1 i)) = _
    rw [hx]
    exact wrap180 i
  exact key _ h

/-- The column indices. -/
theorem col_index (i : Fin 256) :
   (broadcastInDim S256x1 ![0] bcast_S256_S256x1_0 (select (cmpi .slt (res_main_call5_v24 V) (broadcastInDim S256 ![] bcast_S_S256 (constantI S_ 32 0#32))) (addi (res_main_call5_v24 V) (broadcastInDim S256 ![] bcast_S_S256 (constantI S_ 32 192#32))) (res_main_call5_v24 V)) : IVec S256x1 32) (ix2 i 0) = BitVec.ofNat 32 (Tables.col i.val) := by
  have h : (res_main_call5_v24 V : IVec S256 32) (ix1 i) = BitVec.ofNat 32 ((2 * i.val + 1) * 192 / 512) := by
    rw [← nearest i 192 (by norm_num), ← w192_f32]
    unfold res_main_call5_v24
    simp only [pointwise]
  have key : ∀ x : IVec S256 32, x (ix1 i) = BitVec.ofNat 32 ((2 * i.val + 1) * 192 / 512) →
      (broadcastInDim S256x1 ![0] bcast_S256_S256x1_0 (select (cmpi .slt x (broadcastInDim S256 ![] bcast_S_S256 (constantI S_ 32 0#32))) (addi x (broadcastInDim S256 ![] bcast_S_S256 (constantI S_ 32 192#32))) x) : IVec S256x1 32) (ix2 i 0) = BitVec.ofNat 32 (Tables.col i.val) := by
    intro x hx
    simp only [pointwise]
    show Scalar.select (IntOp.cmpi CmpIPredicate.slt (x (ix1 i)) 0#32) (IntOp.addi (x (ix1 i)) 192#32) (x (ix1 i)) = _
    rw [hx]
    exact wrap192 i
  exact key _ h

/-- The logistic of a real is above a half exactly when the real is positive. -/
theorem half_lt (z : ℝ) : decide (Ideal.ofBits FTy.f32 1056964608#32 < Ideal.div 1 (1 + Ideal.exp (-((z : ℝ) : EReal)))) = decide ((0 : EReal) < ((z : ℝ) : EReal)) := by
  have e : Ideal.div 1 (1 + Ideal.exp (-((z : ℝ) : EReal))) = (((1 + Real.exp (-z))⁻¹ : ℝ) : EReal) := by
    show Ideal.div 1 (1 + ((Real.exp (-z) : ℝ) : EReal)) = _
    have hp := Real.exp_pos (-z)
    unfold Ideal.div
    rw [← EReal.coe_one, ← EReal.coe_add, if_neg (by exact_mod_cast (by linarith : (1 + Real.exp (-z)) ≠ 0)), ← EReal.coe_inv, ← EReal.coe_mul, one_mul]
  rw [e, half_f32]
  refine decide_eq_decide.mpr ?_
  rw [EReal.coe_lt_coe_iff, EReal.coe_pos, one_div, inv_lt_inv₀ (by norm_num) (by have := Real.exp_pos (-z); linarith)]
  constructor
  · intro h
    have : Real.exp (-z) < 1 := by linarith
    have := Real.exp_lt_one_iff.mp this
    linarith
  · intro h
    have : Real.exp (-z) < 1 := Real.exp_lt_one_iff.mpr (by linarith)
    linarith

/-- The bit of a threshold mask pixel, as a number. -/
theorem casts (z : FVec Ideal S200x4x192x192 .f32) (b : Fin 2) (k : Fin 100) (t : Fin 4) (r : Fin 180) (c : Fin 192) (y : ℝ)
    (hz : z (ix4 (n0 := 200) (n1 := 4) (n2 := 192) (n3 := 192) ⟨b.val * 100 + k.val, by omega⟩ t ⟨r.val, by omega⟩ c) = (y : EReal)) :
  (uitofp .f32 (extractStridedSlice S2x4x100x180x192 ![0, 0, 0, 0, 0] (transpose S2x4x100x192x192 [0, 2, 1, 3, 4] (shapeCast S2x100x4x192x192 (cmpf .ogt (Host.divf (broadcastInDim S200x4x192x192 ![] bcast_S_S200x4x192x192 (constant S_ .f32 0x3F800000#32)) (addf (broadcastInDim S200x4x192x192 ![] bcast_S_S200x4x192x192 (constant S_ .f32 0x3F800000#32)) (Host.exp (Host.negf z)))) (broadcastInDim S200x4x192x192 ![] bcast_S_S200x4x192x192 (constant S_ .f32 0x3F000000#32))) shapeCasts_S200x4x192x192_S2x100x4x192x192) transposes_S2x100x4x192x192_S2x4x100x192x192_0_2_1_3_4) slices_S2x4x100x192x192_S2x4x100x180x192_0_0_0_0_0) : FVec Ideal S2x4x100x180x192 .f32) (ix5 b t k r c)
    = ((((BitVec.ofBool (decide ((0 : EReal) < (y : EReal)))).toNat : ℝ)) : EReal) := by
  simp only [pointwise]
  rw [← half_lt, ← hz]
  show (((BitVec.ofBool (decide (_ < Ideal.div 1 (1 + Ideal.exp (-z _))))).toNat : ℝ) : EReal) = _
  refine congrArg (fun w : EReal => (((BitVec.ofBool (decide (Ideal.ofBits FTy.f32 1056964608#32 < Ideal.div 1 (1 + Ideal.exp (-w))))).toNat : ℝ) : EReal)) (congrArg z ?_)
  refine (Idealize.ShloMosaic.eq_ix4 _).trans ?_
  congr 1 <;> apply Fin.ext <;> simp

/-- Whether a bit, as a number, is not zero is the bit. -/
theorem bit_ne (p : Bool) : BitVec.ofBool (decide (((((BitVec.ofBool p).toNat : ℝ)) : EReal) ≠ 0)) = BitVec.ofBool p := by
  cases p <;> simp

/-- The last cast: the byte of a bit. -/
theorem last (x : FVec Ideal S2x4x100x256x256 .f32) (b : Fin 2) (k : Fin 100) (t : Fin 4) (i j : Fin 256) (p : Bool)
    (hx : x (ix5 b t k i j) = ((((BitVec.ofBool p).toNat : ℝ)) : EReal)) :
  (transpose S2x100x4x256x256 [0, 2, 1, 3, 4] (extui 8 (cmpf .une x (broadcastInDim S2x4x100x256x256 ![] bcast_S_S2x4x100x256x256 (constant S_ .f32 0x00000000#32))) natLt_1_8) transposes_S2x4x100x256x256_S2x100x4x256x256_0_2_1_3_4) (ix5 b k t i j) = BitVec.setWidth 8 (BitVec.ofBool p) := by
  simp only [pointwise]
  rw [hx]
  exact congrArg (BitVec.setWidth 8) (bit_ne p)

/-- Batch and place as one axis. -/
theorem flatten (x : FVec Ideal S2x100x4x48x48 .f32) (b : Fin 2) (k : Fin 100) (t : Fin 4) (h w : Fin 48) :
  (shapeCast S200x4x48x48 x shapeCasts_S2x100x4x48x48_S200x4x48x48) (ix4 (n0 := 200) ⟨b.val * 100 + k.val, by omega⟩ t h w) = x (ix5 b k t h w) := by
  simp only [pointwise]

/-- The gather of the masks at query words. -/
theorem gather2 (x : FVec Ideal S2x300x4x48x48 .f32) (idx : IVec S2x100x1 32) (b : Fin 2) (k : Fin 100) (t : Fin 4) (h w : Fin 48) (q : Fin 300)
    (hq : idx (ix3 b k 0) = BitVec.ofNat 32 q.val) :
    Host.gather gather_S2x300x4x48x48_S2x100x1_S2x100x4x48x48_234_1_0_0_1_2_1144848 x idx (ix5 b k t h w) = x (ix5 b q t h w) := by
  unfold Host.gather
  refine congrArg x ?_
  funext a
  refine Fin.ext ?_
  show GatherDims.start _ _ idx a + GatherDims.batchCoord _ _ a + GatherDims.offCoord _ _ a = _
  match a with
  | ⟨0, _⟩ =>
    show 0 + b.val + 0 = b.val
    omega
  | ⟨1, _⟩ =>
    show min (idx (GatherDims.siIdx _ _ _)).toInt.toNat 299 + 0 + 0 = q.val
    have e : gather_S2x300x4x48x48_S2x100x1_S2x100x4x48x48_234_1_0_0_1_2_1144848.siIdx (ix5 b k t h w) ⟨0, by decide⟩ = ix3 b k 0 := by
      funext a
      match a with
      | ⟨0, _⟩ => rfl
      | ⟨1, _⟩ => rfl
      | ⟨2, _⟩ => rfl
    refine Eq.trans (congrArg (fun i => min (idx i).toInt.toNat 299 + 0 + 0) e) ?_
    show min (idx (ix3 b k 0)).toInt.toNat 299 + 0 + 0 = q.val
    rw [hq]
    exact query_toNat q
  | ⟨2, _⟩ =>
    show 0 + 0 + t.val = t.val
    omega
  | ⟨3, _⟩ =>
    show 0 + 0 + h.val = h.val
    omega
  | ⟨4, _⟩ =>
    show 0 + 0 + w.val = w.val
    omega

/-- A row's word, read as a signed integer within the gather's range, is the row. -/
theorem row_toNat : ∀ i : Fin 256, min (BitVec.ofNat 32 (Tables.row i.val)).toInt.toNat 179 + 0 + 0 = Tables.row i.val := by decide +kernel

/-- A column's word, read as a signed integer within the gather's range, is the column. -/
theorem col_toNat : ∀ j : Fin 256, min (BitVec.ofNat 32 (Tables.col j.val)).toInt.toNat 191 + 0 + 0 = Tables.col j.val := by decide +kernel

/-- The gather along the rows. -/
theorem gather_rows (x : FVec Ideal S2x4x100x180x192 .f32) (idx : IVec S256x1 32) (b : Fin 2) (t : Fin 4) (k : Fin 100) (i : Fin 256) (c : Fin 192)
    (hi : idx (ix2 i 0) = BitVec.ofNat 32 (Tables.row i.val)) (hr : Tables.row i.val < 180) :
    Host.gather gather_S2x4x100x180x192_S256x1_S2x4x100x256x192_0124_3_n_n_3_1_241001192 x idx (ix5 b t k i c) = x (ix5 b t k ⟨Tables.row i.val, hr⟩ c) := by
  unfold Host.gather
  refine congrArg x ?_
  funext a
  refine Fin.ext ?_
  show GatherDims.start _ _ idx a + GatherDims.batchCoord _ _ a + GatherDims.offCoord _ _ a = _
  match a with
  | ⟨0, _⟩ =>
    show 0 + 0 + b.val = b.val
    omega
  | ⟨1, _⟩ =>
    show 0 + 0 + t.val = t.val
    omega
  | ⟨2, _⟩ =>
    show 0 + 0 + k.val = k.val
    omega
  | ⟨3, _⟩ =>
    show min (idx (GatherDims.siIdx _ _ _)).toInt.toNat 179 + 0 + 0 = Tables.row i.val
    have e : gather_S2x4x100x180x192_S256x1_S2x4x100x256x192_0124_3_n_n_3_1_241001192.siIdx (ix5 b t k i c) ⟨0, by decide⟩ = ix2 i 0 := by
      funext a
      match a with
      | ⟨0, _⟩ => rfl
      | ⟨1, _⟩ => rfl
    refine Eq.trans (congrArg (fun i => min (idx i).toInt.toNat 179 + 0 + 0) e) ?_
    show min (idx (ix2 i 0)).toInt.toNat 179 + 0 + 0 = Tables.row i.val
    rw [hi]
    exact row_toNat i
  | ⟨4, _⟩ =>
    show 0 + 0 + c.val = c.val
    omega

/-- The gather along the columns. -/
theorem gather_cols (x : FVec Ideal S2x4x100x256x192 .f32) (idx : IVec S256x1 32) (b : Fin 2) (t : Fin 4) (k : Fin 100) (i : Fin 256) (j : Fin 256)
    (hj : idx (ix2 j 0) = BitVec.ofNat 32 (Tables.col j.val)) (hc : Tables.col j.val < 192) :
    Host.gather gather_S2x4x100x256x192_S256x1_S2x4x100x256x256_0123_4_n_n_4_1_241002561 x idx (ix5 b t k i j) = x (ix5 b t k i ⟨Tables.col j.val, hc⟩) := by
  unfold Host.gather
  refine congrArg x ?_
  funext a
  refine Fin.ext ?_
  show GatherDims.start _ _ idx a + GatherDims.batchCoord _ _ a + GatherDims.offCoord _ _ a = _
  match a with
  | ⟨0, _⟩ =>
    show 0 + 0 + b.val = b.val
    omega
  | ⟨1, _⟩ =>
    show 0 + 0 + t.val = t.val
    omega
  | ⟨2, _⟩ =>
    show 0 + 0 + k.val = k.val
    omega
  | ⟨3, _⟩ =>
    show 0 + 0 + i.val = i.val
    omega
  | ⟨4, _⟩ =>
    show min (idx (GatherDims.siIdx _ _ _)).toInt.toNat 191 + 0 + 0 = Tables.col j.val
    have e : gather_S2x4x100x256x192_S256x1_S2x4x100x256x256_0123_4_n_n_4_1_241002561.siIdx (ix5 b t k i j) ⟨0, by decide⟩ = ix2 j 0 := by
      funext a
      match a with
      | ⟨0, _⟩ => rfl
      | ⟨1, _⟩ => rfl
    refine Eq.trans (congrArg (fun i => min (idx i).toInt.toNat 191 + 0 + 0) e) ?_
    show min (idx (ix2 j 0)).toInt.toNat 191 + 0 + 0 = Tables.col j.val
    rw [hj]
    exact col_toNat j

/-- The masks of the chosen queries. -/
theorem chosen (b : Fin 2) (k : Fin 100) (t : Fin 4) (h w : Fin 48) : (select (broadcastInDim S2x100x4x48x48 ![0, 1] bcast_S2x100_S2x100x4x48x48_0_1 (Host.reduce IntOp.andi (andi (cmpi .sge (res_main_call2_v5 V) (broadcastInDim S2x100x1 ![] bcast_S_S2x100x1 (constantI S_ 32 0#32))) (cmpi .sle (res_main_call2_v5 V) (broadcastInDim S2x100x1 ![0, 1, 2] bcast_S1x1x1_S2x100x1_0_1_2 (broadcastInDim S1x1x1 ![2] bcast_S1_S1x1x1_2 (constantI S1 32 299#32))))) (constantI S_ 1 1#1) reducesTo_S2x100x1_S2x100_d2 h_S_)) (Host.gather gather_S2x300x4x48x48_S2x100x1_S2x100x4x48x48_234_1_0_0_1_2_1144848 (b1 V) (res_main_call2_v5 V)) (broadcastInDim S2x100x4x48x48 ![] bcast_S_S2x100x4x48x48 (constant (F := Ideal) S_ .f32 0x7FC00000#32)) : FVec Ideal S2x100x4x48x48 .f32) (ix5 b k t h w)
    = b1 V (ix5 b (query (b0 V) b k) t h w) := by
  refine Eq.trans (b := Scalar.select ((Host.reduce IntOp.andi (andi (cmpi .sge (res_main_call2_v5 V) (broadcastInDim S2x100x1 ![] bcast_S_S2x100x1 (constantI S_ 32 0#32))) (cmpi .sle (res_main_call2_v5 V) (broadcastInDim S2x100x1 ![0, 1, 2] bcast_S1x1x1_S2x100x1_0_1_2 (broadcastInDim S1x1x1 ![2] bcast_S1_S1x1x1_2 (constantI S1 32 299#32))))) (constantI S_ 1 1#1) reducesTo_S2x100x1_S2x100_d2 h_S_ : IVec S2x100 1) (ix2 b k)) _ _) (by simp only [pointwise]; rfl) ?_
  rw [in_bounds _ (query (b0 V)) (call2_v5 V)]
  exact gather2 _ _ b k t h w _ (call2_v5 V b k)

/-- Interpolating over the rows and then the columns is interpolating over the columns and then the rows, over the reals. -/
theorem swap (x : Fin 48 → Fin 48 → EReal) (hx : ∀ h w, ∃ r : ℝ, x h w = ↑r) (r c : ℕ) :
    ∃ y : ℝ, ∑ w : Fin 48, (∑ h : Fin 48, weight r h.val * x h w) * weight c w.val = ↑y
      ∧ ∑ h : Fin 48, weight r h.val * ∑ w : Fin 48, x h w * weight c w.val = ↑y := by
  choose f hf using hx
  refine ⟨∑ w : Fin 48, (∑ h : Fin 48, ((Tables.wt r h.val : ℝ) / 8) * f h w) * ((Tables.wt c w.val : ℝ) / 8), ?_, ?_⟩
  · unfold weight
    simp only [hf, ← EReal.coe_mul, coe_sum]
  · unfold weight
    simp only [hf, ← EReal.coe_mul, coe_sum]
    refine congrArg (fun z : ℝ => (z : EReal)) ?_
    simp only [Finset.mul_sum, Finset.sum_mul]
    rw [Finset.sum_comm]
    refine Finset.sum_congr rfl fun w _ => Finset.sum_congr rfl fun h _ => ?_
    ring

/-- The sample of every row of the output is below 180. -/
theorem row_lt : ∀ i : Fin 256, Tables.row i.val < 180 := by decide +kernel

/-- The sample of every column of the output is below 192. -/
theorem col_lt : ∀ j : Fin 256, Tables.col j.val < 192 := by decide +kernel

/-- The interpolated masks: at batch `b`, place `k`, both forms of the sum. -/
theorem resized (hfin : ∀ i, ∃ r : ℝ, b1 V i = ((r : ℝ) : EReal)) (X : FVec Ideal S2x100x4x48x48 .f32)
    (hX : ∀ b k t h w, X (ix5 b k t h w) = b1 V (ix5 b (query (b0 V) b k) t h w))
    (b : Fin 2) (k : Fin 100) (t : Fin 4) (r c : Fin 192) :
    ∃ y : ℝ, (Host.dotGeneral dot_S200x4x192x48_S48x192_S200x4x192x192_3_0_012_1_n_n (some .fp32) (transpose S200x4x192x48 [1, 2, 0, 3] (Host.dotGeneral dot_S48x192_S200x4x48x48_S192x200x4x48_0_2_1_013_n_n (some .fp32) (wts V) (shapeCast S200x4x48x48 X shapeCasts_S2x100x4x48x48_S200x4x48x48)) transposes_S192x200x4x48_S200x4x192x48_1_2_0_3) (wts V) : FVec Ideal S200x4x192x192 .f32) (ix4 (n0 := 200) ⟨b.val * 100 + k.val, by omega⟩ t r c) = ↑y
      ∧ ∑ h : Fin 48, weight r.val h.val * ∑ w : Fin 48, (b1 V (ix5 b (query (b0 V) b k) t h w) : EReal) * weight c.val w.val = ↑y := by
  obtain ⟨y, h1, h2⟩ := swap (fun h w => b1 V (ix5 b (query (b0 V) b k) t h w)) (fun h w => hfin _) r.val c.val
  refine ⟨y, Eq.trans ?_ h1, h2⟩
  refine (dot2 _ _ _ _ _ _).trans (Finset.sum_congr rfl fun w _ => ?_)
  refine congrArg₂ (fun x y : EReal => x * y) ((dot1 _ _ _ _ _ _).trans (Finset.sum_congr rfl fun h _ => ?_)) (v12 V w c)
  exact congrArg₂ (fun x y : EReal => x * y) (v12 V h r) ((flatten X b k t h w).trans (hX b k t h w))

/-- The mask bytes the reference returns. -/
theorem masks (hfin : ∀ i, ∃ r : ℝ, b1 V i = ((r : ℝ) : EReal)) (b : Fin 2) (k : Fin 100) (t : Fin 4) (i j : Fin 256) :
    (transpose S2x100x4x256x256 [0, 2, 1, 3, 4] (extui 8 (cmpf .une (Host.gather gather_S2x4x100x256x192_S256x1_S2x4x100x256x256_0123_4_n_n_4_1_241002561 (Host.gather gather_S2x4x100x180x192_S256x1_S2x4x100x256x192_0124_3_n_n_3_1_241001192 (uitofp .f32 (extractStridedSlice S2x4x100x180x192 ![0, 0, 0, 0, 0] (transpose S2x4x100x192x192 [0, 2, 1, 3, 4] (shapeCast S2x100x4x192x192 (cmpf .ogt (Host.divf (broadcastInDim S200x4x192x192 ![] bcast_S_S200x4x192x192 (constant (F := Ideal) S_ .f32 0x3F800000#32)) (addf (broadcastInDim S200x4x192x192 ![] bcast_S_S200x4x192x192 (constant (F := Ideal) S_ .f32 0x3F800000#32)) (Host.exp (Host.negf (Host.dotGeneral dot_S200x4x192x48_S48x192_S200x4x192x192_3_0_012_1_n_n (some .fp32) (transpose S200x4x192x48 [1, 2, 0, 3] (Host.dotGeneral dot_S48x192_S200x4x48x48_S192x200x4x48_0_2_1_013_n_n (some .fp32) (wts V) (shapeCast S200x4x48x48 (select (broadcastInDim S2x100x4x48x48 ![0, 1] bcast_S2x100_S2x100x4x48x48_0_1 (Host.reduce IntOp.andi (andi (cmpi .sge (res_main_call2_v5 V) (broadcastInDim S2x100x1 ![] bcast_S_S2x100x1 (constantI S_ 32 0#32))) (cmpi .sle (res_main_call2_v5 V) (broadcastInDim S2x100x1 ![0, 1, 2] bcast_S1x1x1_S2x100x1_0_1_2 (broadcastInDim S1x1x1 ![2] bcast_S1_S1x1x1_2 (constantI S1 32 299#32))))) (constantI S_ 1 1#1) reducesTo_S2x100x1_S2x100_d2 h_S_)) (Host.gather gather_S2x300x4x48x48_S2x100x1_S2x100x4x48x48_234_1_0_0_1_2_1144848 (b1 V) (res_main_call2_v5 V)) (broadcastInDim S2x100x4x48x48 ![] bcast_S_S2x100x4x48x48 (constant (F := Ideal) S_ .f32 0x7FC00000#32))) shapeCasts_S2x100x4x48x48_S200x4x48x48)) transposes_S192x200x4x48_S200x4x192x48_1_2_0_3) (wts V)))))) (broadcastInDim S200x4x192x192 ![] bcast_S_S200x4x192x192 (constant (F := Ideal) S_ .f32 0x3F000000#32))) shapeCasts_S200x4x192x192_S2x100x4x192x192) transposes_S2x100x4x192x192_S2x4x100x192x192_0_2_1_3_4) slices_S2x4x100x192x192_S2x4x100x180x192_0_0_0_0_0)) (broadcastInDim S256x1 ![0] bcast_S256_S256x1_0 (select (cmpi .slt (res_main_call5_v8 V) (broadcastInDim S256 ![] bcast_S_S256 (constantI S_ 32 0#32))) (addi (res_main_call5_v8 V) (broadcastInDim S256 ![] bcast_S_S256 (constantI S_ 32 180#32))) (res_main_call5_v8 V)))) (broadcastInDim S256x1 ![0] bcast_S256_S256x1_0 (select (cmpi .slt (res_main_call5_v24 V) (broadcastInDim S256 ![] bcast_S_S256 (constantI S_ 32 0#32))) (addi (res_main_call5_v24 V) (broadcastInDim S256 ![] bcast_S_S256 (constantI S_ 32 192#32))) (res_main_call5_v24 V))) : FVec Ideal S2x4x100x256x256 .f32) (broadcastInDim S2x4x100x256x256 ![] bcast_S_S2x4x100x256x256 (constant (F := Ideal) S_ .f32 0x00000000#32))) natLt_1_8) transposes_S2x4x100x256x256_S2x100x4x256x256_0_2_1_3_4 : IVec S2x100x4x256x256 8) (ix5 b k t i j) = mask (b1 V) b (query (b0 V) b k) t i j := by
  obtain ⟨y, h1, h2⟩ := resized V hfin _ (chosen V) b k t ⟨Tables.row i.val, (row_lt i).trans (by norm_num)⟩ ⟨Tables.col j.val, col_lt j⟩
  refine (last _ b k t i j (decide ((0 : EReal) < (y : EReal))) ?_).trans ?_
  · refine (gather_cols _ _ b t k i j (col_index V j) (col_lt j)).trans ?_
    refine (gather_rows _ _ b t k i _ (row_index V i) (row_lt i)).trans ?_
    exact casts _ b k t _ _ y h1
  · unfold mask
    rw [← h2]

end Cert.Proof.ReferenceMasks

end
-- ==== Proof.lean ====
/- The certificate's theorem: the frames of the three programs, the idealization's (empty) list of rewrites, and that the
   idealized kernel and the idealized reference return equal results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValues
public import proofs.«01_k».proof.Proof.Launch
public import proofs.«01_k».proof.Proof.ReferenceMasks
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo

/-- The side conditions of the precondition's operations. -/
theorem pre_facts : Cert.Pre_finite_masks.Facts := ⟨by decide⟩

/-- Every run of the reference leaves its arguments as they were and every semaphore at zero: it is host operations
    alone and declares no semaphore. -/
theorem frame_ri : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The word of infinity. -/
theorem inf_f32 : Ideal.ofBits .f32 0x7F800000#32 = ⊤ := by
  simp [Ideal.ofBits, Ideal.ieee]

/-- The precondition says that every entry of the masks is a real number. -/
theorem finite_of_pre (x0 : FVec Ideal Cert.Pre_finite_masks.S2x300x42 .f32) (x1 : FVec Ideal Cert.Pre_finite_masks.S2x300x4x48x48 .f32)
    (x2 : FVec Ideal Cert.Pre_finite_masks.S2x300x4 .f32) (x3 x4 : IVec Cert.Pre_finite_masks.S2x2 32)
    (h : @Cert.Pre_finite_masks.fn pre_facts Ideal _ x0 x1 x2 x3 x4 = fun _ => 1#1) (i : Cert.Pre_finite_masks.S2x300x4x48x48.Idx) :
    ∃ r : ℝ, x1 i = ((r : ℝ) : EReal) := by
  have hi : BitVec.ofBool (decide (max (x1 i) (-(x1 i)) < Ideal.ofBits .f32 0x7F800000#32)) = 1#1 := congrFun h i
  rw [inf_f32] at hi
  have hlt : max (x1 i) (-(x1 i)) < (⊤ : EReal) := by
    by_contra hn
    rw [decide_eq_false hn] at hi
    exact absurd hi (by decide)
  have h1 : x1 i < (⊤ : EReal) := lt_of_le_of_lt (le_max_left _ _) hlt
  have h2 : -(x1 i) < (⊤ : EReal) := lt_of_le_of_lt (le_max_right _ _) hlt
  revert h1 h2
  generalize x1 i = z
  intro h1 h2
  induction z using EReal.rec with
  | bot => exact absurd h2 (by simp)
  | top => exact absurd h1 (lt_irrefl _)
  | coe r => exact ⟨r, rfl⟩

/-- The idealized kernel and the idealized reference, from memories that agree on the arguments and whose masks are real
    numbers, return the same scores, labels, reference points and mask bytes. -/
theorem algebraic : Cert.algebraic_KernelIdeal_ReferenceIdeal_pre_finite_masks (hKernelIdeal := Cert.KernelIdeal.Gen.facts)
    (hReferenceIdeal := Cert.ReferenceIdeal.Gen.facts) (hPre_finite_masks := pre_facts) := by
  intro m ρ m' ρ' hpre hagree
  refine ⟨_, _, _, _, Launch.run m ρ, ?_⟩
  refine (θ_run Cert.ReferenceIdeal.defs _ _).mono (fun r h c => ?_) (Cert.ReferenceIdeal.Value.run (F := Ideal) m' ρ')
  obtain ⟨h0, h1, h2, h3, hargs⟩ := h c
  obtain ⟨g0, g1, g2, -, -⟩ := hagree c
  have e0 : ReferenceValues.b0 (launchContents m' c) = KernelValues.a0 m c := g0
  have e1 : ReferenceValues.b1 (launchContents m' c) = KernelValues.a1 m c := g1
  have e2 : ReferenceValues.b2 (launchContents m' c) = KernelValues.a2 m c := g2
  have hfin : ∀ i, ∃ r : ℝ, KernelValues.a1 m c i = ((r : ℝ) : EReal) := finite_of_pre _ _ _ _ _ (hpre c)
  refine ⟨h0.trans (funext fun i => ?_), h1.trans (funext fun i => ?_), h2.trans (funext fun i => ?_), h3.trans (funext fun i => ?_), hargs⟩
  · obtain ⟨b, k, rfl⟩ : ∃ (b : Fin 2) (k : Fin 100), i = ix2 (n0 := 2) (n1 := 100) b k := ⟨i 0, i 1, Idealize.ShloMosaic.eq_ix2 i⟩
    refine (ReferenceValues.top_values (launchContents m' c) b k).trans ?_
    rw [e0]
    exact (KernelValues.result0 m ρ c b k).symm
  · obtain ⟨b, k, rfl⟩ : ∃ (b : Fin 2) (k : Fin 100), i = ix2 (n0 := 2) (n1 := 100) b k := ⟨i 0, i 1, Idealize.ShloMosaic.eq_ix2 i⟩
    refine (ReferenceValues.label (launchContents m' c) b k).trans ?_
    rw [e0]
    exact (KernelValues.result1 m ρ c b k).symm
  · obtain ⟨b, k, d, rfl⟩ : ∃ (b : Fin 2) (k : Fin 100) (d : Fin 4), i = ix3 (n0 := 2) (n1 := 100) (n2 := 4) b k d :=
      ⟨i 0, i 1, i 2, Idealize.ShloMosaic.eq_ix3 i⟩
    refine (ReferenceValues.refs (launchContents m' c) b k d).trans ?_
    rw [e0, e2]
    exact (KernelValues.result2 m ρ c b k d).symm
  · obtain ⟨b, k, t, p, q, rfl⟩ : ∃ (b : Fin 2) (k : Fin 100) (t : Fin 4) (p q : Fin 256),
        i = ix5 (n0 := 2) (n1 := 100) (n2 := 4) (n3 := 256) (n4 := 256) b k t p q :=
      ⟨i 0, i 1, i 2, i 3, i 4, Idealize.ShloMosaic.eq_ix5 i⟩
    refine (ReferenceMasks.masks (launchContents m' c) (by rw [e1]; exact hfin) b k t p q).trans ?_
    rw [e0, e1]
    exact (KernelValues.result3 m ρ c hfin b k t p q).symm

/-- Everything the certificate claims. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    frame_ri, fun m ρ _ => frame_ri m ρ True.intro, trivial, algebraic⟩

end Cert.Proof

end
